-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bias [hPre_finite_bias : Cert.Pre_finite_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bias [hPre_finite_bias : Cert.Pre_finite_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_bias [hKernelIdeal : Cert.KernelIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_bias [hReferenceIdeal : Cert.ReferenceIdeal.Facts] [hPre_finite_bias : Cert.Pre_finite_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "inv_n" .f32 0x3A2AAAAB#32 ((1 / 1536 : ℝ) : EReal)
  ∧ IdealRules.named_const.Statement Cert.KernelIdeal.κ "neg_ln_2" .f32 0xBF317218#32 ((-(Real.log 2) : ℝ) : EReal)
  ∧ IdealRules.named_const.Statement Cert.KernelIdeal.κ "neg_ln_2_over_n" .f32 0xB9EC9820#32 ((-((Real.log 2) * (1 / 1536)) : ℝ) : EReal)

def algebraic_KernelIdeal_ReferenceIdeal_pre_finite_bias [hKernelIdeal : Cert.KernelIdeal.Facts] [hReferenceIdeal : Cert.ReferenceIdeal.Facts] [hPre_finite_bias : Cert.Pre_finite_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_bias : Cert.Pre_finite_bias.Facts),
    quiescent_Kernel (hKernel := hKernel)
    ∧ quiescent_KernelIdeal (hKernelIdeal := hKernelIdeal)
    ∧ quiescent_KernelIdeal_pre_finite_bias (hKernelIdeal := hKernelIdeal) (hPre_finite_bias := hPre_finite_bias)
    ∧ quiescent_ReferenceIdeal (hReferenceIdeal := hReferenceIdeal)
    ∧ quiescent_ReferenceIdeal_pre_finite_bias (hReferenceIdeal := hReferenceIdeal) (hPre_finite_bias := hPre_finite_bias)
    ∧ preserves_Kernel_KernelIdeal
    ∧ algebraic_KernelIdeal_ReferenceIdeal_pre_finite_bias (hKernelIdeal := hKernelIdeal) (hReferenceIdeal := hReferenceIdeal) (hPre_finite_bias := hPre_finite_bias)
-- ==== Pre_finite_bias.lean ====
abbrev S3x512x1408 : Shape := ⟨3, ![3, 512, 1408]⟩
abbrev S3x512 : Shape := ⟨2, ![3, 512]⟩
abbrev S_ : Shape := ⟨0, ![]⟩

class Facts : Prop where

variable [Facts]

def fn {F : FTy → Type} [FloatOps F] (main_arg0 : FVec F S3x512x1408 .fp8e4m3) (main_arg1 : FVec F S3x512 .f32) (main_arg2 : FVec F S3x512x1408 .fp8e4m3) (main_arg3 : FVec F S3x512 .f32) (main_arg4 : FVec F S_ .f32) (main_arg5 : FVec F S_ .f32) : IVec S_ 1 :=
  let main_v0 : FVec F S_ .f32 := Host.absf main_arg5
  let main_cst : FVec F S_ .f32 := constant S_ .f32 0x7F800000#32
  let main_v1 : IVec S_ 1 := cmpf .olt main_v0 main_cst
  main_v1
-- ==== Kernel.lean ====
abbrev S3x512x1408 : Shape := ⟨3, ![3, 512, 1408]⟩
abbrev S3x512 : Shape := ⟨2, ![3, 512]⟩
abbrev S_ : Shape := ⟨0, ![]⟩
abbrev S1 : Shape := ⟨1, ![1]⟩
abbrev S1536x1408 : Shape := ⟨2, ![1536, 1408]⟩
abbrev S1536x128 : Shape := ⟨2, ![1536, 128]⟩
abbrev S256x1536 : Shape := ⟨2, ![256, 1536]⟩
abbrev S1536x1536 : Shape := ⟨2, ![1536, 1536]⟩
abbrev S1x128 : Shape := ⟨2, ![1, 128]⟩
abbrev S8x128 : Shape := ⟨2, ![8, 128]⟩
abbrev S128x128 : Shape := ⟨2, ![128, 128]⟩
abbrev S256x1408 : Shape := ⟨2, ![256, 1408]⟩
abbrev S64x128 : Shape := ⟨2, ![64, 128]⟩
abbrev S128 : Shape := ⟨1, ![128]⟩
abbrev S1536x256 : Shape := ⟨2, ![1536, 256]⟩

abbrev nBuf : Space → Nat
  | .hbm => 15
  | .vmem => 15
  | .smem => 2
  | _ => 0

abbrev bufTy : (tb : Table) → Fin (tcTables nBuf tb) → BufTy
  | .hbm, ⟨0, _⟩ => ⟨S3x512x1408, .fp8e4m3⟩
  | .hbm, ⟨1, _⟩ => ⟨S3x512, .f32⟩
  | .hbm, ⟨2, _⟩ => ⟨S3x512x1408, .fp8e4m3⟩
  | .hbm, ⟨3, _⟩ => ⟨S3x512, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1536x1408, .fp8e4m3⟩
  | .hbm, ⟨9, _⟩ => ⟨S1536x1408, .fp8e4m3⟩
  | .hbm, ⟨10, _⟩ => ⟨S3x512, .f32⟩
  | .hbm, ⟨11, _⟩ => ⟨S1536x1408, .bf16⟩
  | .hbm, ⟨12, _⟩ => ⟨S1536x1408, .bf16⟩
  | .hbm, ⟨13, _⟩ => ⟨S3x512, .f32⟩
  | .hbm, ⟨14, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S1536x1408, .fp8e4m3⟩
  | .local _ .vmem, ⟨3, _⟩ => ⟨S1536x1408, .fp8e4m3⟩
  | .local _ .vmem, ⟨4, _⟩ => ⟨S3x512, .f32⟩
  | .local _ .vmem, ⟨5, _⟩ => ⟨S1536x1408, .bf16⟩
  | .local _ .vmem, ⟨6, _⟩ => ⟨S1536x1408, .bf16⟩
  | .local _ .vmem, ⟨7, _⟩ => ⟨S3x512, .f32⟩
  | .local _ .vmem, ⟨8, _⟩ => ⟨S3x512, .f32⟩
  | .local _ .vmem, ⟨9, _⟩ => ⟨S1536x128, .f32⟩
  | .local _ .vmem, ⟨10, _⟩ => ⟨S1536x128, .f32⟩
  | .local _ .vmem, ⟨11, _⟩ => ⟨S256x1536, .f32⟩
  | .local _ .vmem, ⟨12, _⟩ => ⟨S1536x1536, .bf16⟩
  | .local _ .vmem, ⟨13, _⟩ => ⟨S1536x1536, .bf16⟩
  | .local _ .vmem, ⟨14, _⟩ => ⟨S1536x1408, .bf16⟩
  | .local _ .smem, ⟨0, _⟩ => ⟨S1, .f32⟩
  | .local _ .smem, ⟨1, _⟩ => ⟨S1, .f32⟩
  | _, _ => ⟨S3x512x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "inv_n" => some ((1 / 1536 : ℝ) : EReal)
  | "neg_ln_2" => some ((-(Real.log 2) : ℝ) : EReal)
  | "neg_ln_2_over_n" => some ((-((Real.log 2) * (1 / 1536)) : ℝ) : EReal)
  | "neg_log2_e" => some ((-((Real.log 2)⁻¹) : ℝ) : EReal)
  | _ => none
-- ==== ReferenceIdeal.lean ====
abbrev S3x512x1408 : Shape := ⟨3, ![3, 512, 1408]⟩
abbrev S3x512 : Shape := ⟨2, ![3, 512]⟩
abbrev S_ : Shape := ⟨0, ![]⟩
abbrev S1536x1408 : Shape := ⟨2, ![1536, 1408]⟩
abbrev S1536x1 : Shape := ⟨2, ![1536, 1]⟩
abbrev S1x1536 : Shape := ⟨2, ![1, 1536]⟩
abbrev S1x1 : Shape := ⟨2, ![1, 1]⟩
abbrev S1536x1536 : Shape := ⟨2, ![1536, 1536]⟩
abbrev S1536 : Shape := ⟨1, ![1536]⟩

abbrev nBuf : Space → Nat
  | .hbm => 17
  | .vmem => 11
  | .smem => 0
  | _ => 0

abbrev bufTy : (tb : Table) → Fin (tcTables nBuf tb) → BufTy
  | .hbm, ⟨0, _⟩ => ⟨S3x512x1408, .fp8e4m3⟩
  | .hbm, ⟨1, _⟩ => ⟨S3x512, .f32⟩
  | .hbm, ⟨2, _⟩ => ⟨S3x512x1408, .fp8e4m3⟩
  | .hbm, ⟨3, _⟩ => ⟨S3x512, .f32⟩
  | .hbm, ⟨4, _⟩ => ⟨S_, .f32⟩
  | .hbm, ⟨5, _⟩ => ⟨S_, .f32⟩
  | .hbm, ⟨6, _⟩ => ⟨S1536x1408, .fp8e4m3⟩
  | .hbm, ⟨7, _⟩ => ⟨S1536x1, .f32⟩
  | .hbm, ⟨8, _⟩ => ⟨S1536x1408, .fp8e4m3⟩
  | .hbm, ⟨9, _⟩ => ⟨S1x1536, .f32⟩
  | .hbm, ⟨10, _⟩ => ⟨S1x1, .f32⟩
  | .hbm, ⟨11, _⟩ => ⟨S1x1, .f32⟩
  | .hbm, ⟨12, _⟩ => ⟨S3x512, .f32⟩
  | .hbm, ⟨13, _⟩ => ⟨S1536x1408, .bf16⟩
  | .hbm, ⟨14, _⟩ => ⟨S1536x1408, .bf16⟩
  | .hbm, ⟨15, _⟩ => ⟨S3x512, .f32⟩
  | .hbm, ⟨16, _⟩ => ⟨S3x512, .f32⟩
  | .local _ .vmem, ⟨0, _⟩ => ⟨S1536x1408, .fp8e4m3⟩
  | .local _ .vmem, ⟨1, _⟩ => ⟨S1536x1, .f32⟩
  | .local _ .vmem, ⟨2, _⟩ => ⟨S1536x1408, .fp8e4m3⟩
  | .local _ .vmem, ⟨3, _⟩ => ⟨S1x1536, .f32⟩
  | .local _ .vmem, ⟨4, _⟩ => ⟨S1x1, .f32⟩
  | .local _ .vmem, ⟨5, _⟩ => ⟨S1x1, .f32⟩
  | .local _ .vmem, ⟨6, _⟩ => ⟨S3x512, .f32⟩
  | .local _ .vmem, ⟨7, _⟩ => ⟨S1536x1408, .bf16⟩
  | .local _ .vmem, ⟨8, _⟩ => ⟨S1536x1408, .bf16⟩
  | .local _ .vmem, ⟨9, _⟩ => ⟨S3x512, .f32⟩
  | .local _ .vmem, ⟨10, _⟩ => ⟨S3x512, .f32⟩
  | _, _ => ⟨S3x512x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_n" => some ((1 / 1536 : ℝ) : EReal)
  | _ => none

abbrev grid0 : Pipeline.Grid := .none

abbrev stage0_0 : Fin 1 → Memref sig .tc .vmem S1536x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Math.lean ====
/-
  The extended-real arithmetic of the sigmoid loss: no program is mentioned here. With `c = 1 / log 2`, the kernel
  works with `v = -c · u` and base-2 exponentials where the reference works with `u` and base-e ones, multiplies sums
  by negative constants where the reference multiplies the terms, and gathers twelve softplus tails into one
  logarithm of a product. The lemmas below say that each of these is an equality on the extended reals.
-/
module

public import Idealize.ShloMosaic.PureOps.Ideal
public import Idealize.ShloMosaic.PureOps.Ideal.Laws

@[expose] public section

noncomputable section

namespace Cert.Siglip

open Idealize.ShloMosaic

/-! ## Sums and constants -/

/-- A real constant that is not negative goes into any sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A sum of terms none of which is `⊤` is not `⊤`. -/
theorem sum_ne_top {ι : Type} (s : Finset ι) (f : ι → EReal) (hf : ∀ i ∈ s, f i ≠ ⊤) : ∑ i ∈ s, f i ≠ ⊤ := by
  classical
  induction s using Finset.induction_on with
  | empty => simp
  | insert a s ha ih =>
    rw [Finset.sum_insert ha]
    exact EReal.add_ne_top (hf a (Finset.mem_insert_self a s)) (ih fun i hi => hf i (Finset.mem_insert_of_mem hi))

/-- The negative of a sum of terms none of which is `⊤`. -/
theorem neg_sum {ι : Type} (s : Finset ι) (f : ι → EReal) (hf : ∀ i ∈ s, f i ≠ ⊤) :
    -(∑ i ∈ s, f i) = ∑ i ∈ s, -f i := by
  classical
  induction s using Finset.induction_on with
  | empty => simp
  | insert a s ha ih =>
    have hs := fun i hi => hf i (Finset.mem_insert_of_mem (a := i) (b := a) hi)
    have ht := sum_ne_top s f hs
    rw [Finset.sum_insert ha, Finset.sum_insert ha,
      EReal.neg_add (Or.inr ht) (Or.inl (hf a (Finset.mem_insert_self a s))), sub_eq_add_neg, ih hs]

/-- A term that is not `⊤` stays so under a real factor that is not negative. -/
theorem mul_coe_ne_top {x : EReal} (hx : x ≠ ⊤) {r : ℝ} (hr : 0 ≤ r) : x * (r : EReal) ≠ ⊤ := by
  induction x with
  | bot =>
    rcases hr.eq_or_lt with rfl | h
    · simp
    · rw [EReal.bot_mul_coe_of_pos h]; exact bot_ne_top
  | coe x => rw [← EReal.coe_mul]; exact EReal.coe_ne_top _
  | top => exact absurd rfl hx

/-- A real constant that is not positive goes into a sum of terms none of which is `⊤`. -/
theorem sum_mul_coe_neg {ι : Type} (s : Finset ι) (f : ι → EReal) (hf : ∀ i ∈ s, f i ≠ ⊤) {r : ℝ} (hr : 0 ≤ r) :
    (∑ i ∈ s, f i) * ((-r : ℝ) : EReal) = ∑ i ∈ s, f i * ((-r : ℝ) : EReal) := by
  rw [EReal.coe_neg, mul_neg, sum_mul_coe s f hr,
    neg_sum s _ fun i hi => mul_coe_ne_top (hf i hi) hr]
  exact Finset.sum_congr rfl fun i _ => (mul_neg _ _).symm

/-! ## The base-2 form -/

theorem log_two_pos : 0 < Real.log 2 := Real.log_pos (by norm_num)

/-- `-c`, with `c = 1 / log 2`. -/
abbrev negC : EReal := ((-((Real.log 2)⁻¹) : ℝ) : EReal)

/-- `-log 2`. -/
abbrev negLn2 : EReal := ((-(Real.log 2) : ℝ) : EReal)

/-- `1 / n`. -/
abbrev invN : EReal := ((1 / 1536 : ℝ) : EReal)

/-- `-(log 2) / n`. -/
abbrev negLn2N : EReal := ((-((Real.log 2) * (1 / 1536)) : ℝ) : EReal)

theorem negC_top : negC * ⊤ = ⊥ := EReal.coe_mul_top_of_neg (by have := inv_pos.mpr log_two_pos; linarith)
theorem negC_bot : negC * ⊥ = ⊤ := EReal.coe_mul_bot_of_neg (by have := inv_pos.mpr log_two_pos; linarith)

/-- `-c` goes into the sum of any extended real and a finite bias. -/
theorem negC_add (x : EReal) {b : EReal} (hb : b ≠ ⊤) (hb' : b ≠ ⊥) : negC * x + negC * b = negC * (x + b) := by
  induction b with
  | bot => exact absurd rfl hb'
  | top => exact absurd rfl hb
  | coe b =>
    induction x with
    | bot => rw [EReal.bot_add, negC_bot, ← EReal.coe_mul, EReal.top_add_coe]
    | top => rw [EReal.top_add_coe, negC_top, EReal.bot_add]
    | coe x => rw [← EReal.coe_mul, ← EReal.coe_mul, ← EReal.coe_add, ← EReal.coe_add, ← EReal.coe_mul, mul_add]

/-- The base-2 exponential of `-c · u` is the exponential of `-u`. -/
theorem exp2_negC (u : EReal) : Ideal.exp2 (negC * u) = Ideal.exp (-u) := by
  induction u with
  | bot => rw [negC_bot]; rfl
  | top => rw [negC_top]; rfl
  | coe u =>
    rw [← EReal.coe_mul, ← EReal.coe_neg]
    show ((Real.rpow 2 _ : ℝ) : EReal) = ((Real.exp _ : ℝ) : EReal)
    congr 1
    show (2 : ℝ) ^ (-(Real.log 2)⁻¹ * u) = _
    rw [Real.rpow_def_of_pos (by norm_num)]
    congr 1
    field_simp [log_two_pos.ne']

/-- The kernel's sigmoid of `v = -c · u` is the logistic function of `u`. -/
theorem sig_eq (u : EReal) : Ideal.div 1 (1 + Ideal.exp2 (negC * u)) = Ideal.logistic u := by
  rw [exp2_negC]; rfl

/-! ## The logistic function is a real number between 0 and 1 -/

/-- The logistic function, as a real number. -/
def sg (u : EReal) : ℝ := (Ideal.logistic u).toReal

theorem logistic_coe (u : ℝ) : Ideal.logistic (u : EReal) = ((1 / (1 + Real.exp (-u)) : ℝ) : EReal) := by
  have h : (0 : ℝ) < 1 + Real.exp (-u) := by positivity
  show Ideal.div 1 (1 + Ideal.exp (-(u : EReal))) = _
  rw [← EReal.coe_neg]
  show Ideal.div 1 (1 + ((Real.exp (-u) : ℝ) : EReal)) = _
  rw [← EReal.coe_one, ← EReal.coe_add, Ideal.div, if_neg (by exact_mod_cast h.ne'), ← EReal.coe_inv, EReal.coe_one, one_mul, one_div]

theorem logistic_bot : Ideal.logistic ⊥ = ((0 : ℝ) : EReal) := by
  show Ideal.div 1 (1 + Ideal.exp (-⊥)) = _
  rw [EReal.neg_bot]
  show Ideal.div 1 (1 + ⊤) = _
  rw [← EReal.coe_one, EReal.coe_add_top, Ideal.div, if_neg EReal.top_ne_zero, EReal.inv_top, mul_zero]; rfl

theorem logistic_top : Ideal.logistic ⊤ = ((1 : ℝ) : EReal) := by
  show Ideal.div 1 (1 + Ideal.exp (-⊤)) = _
  rw [EReal.neg_top]
  show Ideal.div 1 (1 + 0) = _
  rw [add_zero, Ideal.div, if_neg one_ne_zero, ← EReal.coe_one, ← EReal.coe_inv, ← EReal.coe_mul]; norm_num

theorem logistic_eq (u : EReal) : Ideal.logistic u = (sg u : EReal) := by
  unfold sg
  induction u with
  | bot => rw [logistic_bot, EReal.toReal_coe]
  | top => rw [logistic_top, EReal.toReal_coe]
  | coe u => rw [logistic_coe, EReal.toReal_coe]

theorem sg_bot : sg ⊥ = 0 := by rw [sg, logistic_bot, EReal.toReal_coe]
theorem sg_top : sg ⊤ = 1 := by rw [sg, logistic_top, EReal.toReal_coe]
theorem sg_coe (u : ℝ) : sg (u : EReal) = 1 / (1 + Real.exp (-u)) := by rw [sg, logistic_coe, EReal.toReal_coe]

theorem sg_nonneg (u : EReal) : 0 ≤ sg u := by
  induction u with
  | bot => rw [sg_bot]
  | top => rw [sg_top]; norm_num
  | coe u => rw [sg_coe]; positivity

theorem sg_le_one (u : EReal) : sg u ≤ 1 := by
  induction u with
  | bot => rw [sg_bot]; norm_num
  | top => rw [sg_top]
  | coe u =>
    rw [sg_coe, div_le_one (by positivity)]
    have := Real.exp_pos (-u); linarith

/-- The smaller of the two sides of the sigmoid. -/
def ccr (u : EReal) : ℝ := min (sg u) (1 - sg u)

theorem ccr_nonneg (u : EReal) : 0 ≤ ccr u := le_min (sg_nonneg u) (by have := sg_le_one u; linarith)
theorem ccr_lt_one (u : EReal) : ccr u < 1 := by
  unfold ccr
  rcases le_total (sg u) (1 - sg u) with h | h
  · rw [min_eq_left h]; have := sg_nonneg u; linarith
  · rw [min_eq_right h]; have := sg_nonneg u; linarith

/-- The kernel's `min(sig, 1 - sig)` as a real number. -/
theorem min_sig (u : EReal) : min (sg u : EReal) (1 - (sg u : EReal)) = (ccr u : EReal) := by
  rw [← EReal.coe_one, ← EReal.coe_sub, ccr]
  exact (EReal.coe_strictMono.monotone.map_min).symm

/-- `1 - min(p, 1 - p)` is `1 / (1 + e^{-|u|})`. -/
theorem one_sub_ccr_coe (u : ℝ) : 1 - ccr (u : EReal) = (1 + Real.exp (-|u|))⁻¹ := by
  have he : (0 : ℝ) < 1 + Real.exp (-u) := by positivity
  have h1 : 1 - sg (u : EReal) = Real.exp (-u) / (1 + Real.exp (-u)) := by
    rw [sg_coe]; field_simp; ring
  rw [ccr, h1, sg_coe]
  rcases le_total 0 u with hu | hu
  · have hle : Real.exp (-u) ≤ 1 := Real.exp_le_one_iff.mpr (by linarith)
    rw [abs_of_nonneg hu, min_eq_right (by gcongr)]
    field_simp; ring
  · have hle : 1 ≤ Real.exp (-u) := Real.one_le_exp (by linarith)
    rw [abs_of_nonpos hu, neg_neg, min_eq_left (by gcongr)]
    have : Real.exp u * Real.exp (-u) = 1 := by rw [← Real.exp_add]; simp
    have hp : (0 : ℝ) < 1 + Real.exp u := by positivity
    field_simp
    nlinarith

/-- The softplus tail, as a real number. -/
def lam (u : EReal) : ℝ := -Real.log (1 - ccr u)

theorem lam_nonneg (u : EReal) : 0 ≤ lam u := by
  have h0 := ccr_nonneg u; have h1 := ccr_lt_one u
  have := Real.log_nonpos (by linarith) (by linarith : 1 - ccr u ≤ 1)
  unfold lam; linarith

theorem ccr_bot : ccr ⊥ = 0 := by rw [ccr, sg_bot]; norm_num
theorem ccr_top : ccr ⊤ = 0 := by rw [ccr, sg_top]; norm_num

/-- The reference's softplus tail `log1p(exp(-|0 - u|))` is that real number. -/
theorem tail_eq (u : EReal) : Ideal.log1p (Ideal.exp (0 - max (0 - u) (-(0 - u)))) = (lam u : EReal) := by
  have hbase : Ideal.log1p 0 = ((0 : ℝ) : EReal) := by
    show Ideal.log (1 + 0) = _
    rw [add_zero, ← EReal.coe_one]
    show (if (1 : ℝ) ≤ 0 then (⊥ : EReal) else (Real.log 1 : EReal)) = _
    rw [if_neg (by norm_num), Real.log_one]
  rw [zero_sub u, neg_neg]
  induction u with
  | bot =>
    rw [EReal.neg_bot, max_eq_left bot_le, zero_sub, EReal.neg_top]
    show Ideal.log1p 0 = _
    rw [hbase, lam, ccr_bot]; norm_num
  | top =>
    rw [max_eq_right le_top, zero_sub, EReal.neg_top]
    show Ideal.log1p 0 = _
    rw [hbase, lam, ccr_top]; norm_num
  | coe u =>
    rw [← EReal.coe_neg, ← EReal.coe_strictMono.monotone.map_max, zero_sub, ← EReal.coe_neg]
    show Ideal.log (1 + ((Real.exp _ : ℝ) : EReal)) = _
    rw [← EReal.coe_one, ← EReal.coe_add]
    have hp : 0 < 1 + Real.exp (-(max (-u) u)) := by positivity
    show (if (1 + Real.exp (-(max (-u) u)) : ℝ) ≤ 0 then (⊥ : EReal) else (Real.log (1 + Real.exp (-(max (-u) u))) : EReal)) = _
    rw [if_neg hp.not_ge, lam, one_sub_ccr_coe, Real.log_inv, neg_neg, max_comm]
    rfl

/-! ## One row of a lane: the twelve columns -/

/-- The kernel's running `1 - Π (1 - c)`, on real numbers. -/
def qAcc (cc : ℕ → ℝ) : ℕ → ℝ
  | 0 => 0
  | k + 1 => qAcc cc k + (cc k - cc k * qAcc cc k)

theorem one_sub_qAcc (cc : ℕ → ℝ) (k : ℕ) : 1 - qAcc cc k = ∏ i ∈ Finset.range k, (1 - cc i) := by
  induction k with
  | zero => simp [qAcc]
  | succ k ih => rw [Finset.prod_range_succ, ← ih, qAcc]; ring

/-- The kernel's `log(1 - q)` by `log w · (-q / d)`, with `w = 1 - q` and `d = w - 1`, or `-q` where `d` is zero. -/
theorem log1m_eq {q : ℝ} (hq : q < 1) (x : EReal)
    (hx : x = if (1 - (q : EReal)) - 1 = 0 then 0 - (q : EReal)
      else Ideal.log (1 - (q : EReal)) * Ideal.div (0 - (q : EReal)) (if (1 - (q : EReal)) - 1 = 0 then 1 else (1 - (q : EReal)) - 1)) :
    x = ((Real.log (1 - q) : ℝ) : EReal) := by
  have hd : (1 - (q : EReal)) - 1 = ((-q : ℝ) : EReal) := by
    rw [← EReal.coe_one, ← EReal.coe_sub, ← EReal.coe_sub]; congr 1; ring
  subst hx
  rw [hd]
  by_cases h : q = 0
  · subst h; simp
  · have hq' : ((-q : ℝ) : EReal) ≠ 0 := by exact_mod_cast (neg_ne_zero.mpr h)
    rw [if_neg hq', if_neg hq', zero_sub, ← EReal.coe_neg, Ideal.div, if_neg hq', ← EReal.coe_inv, ← EReal.coe_mul,
      mul_inv_cancel₀ (neg_ne_zero.mpr h), ← EReal.coe_one, ← EReal.coe_sub]
    show (if (1 - q : ℝ) ≤ 0 then (⊥ : EReal) else (Real.log (1 - q) : EReal)) * _ = _
    rw [if_neg (by linarith), EReal.coe_one, mul_one]

/-- `-log(1 - q)` of the running product is the sum of the softplus tails. -/
theorem neg_log_qAcc (u : ℕ → EReal) (k : ℕ) :
    -Real.log (1 - qAcc (fun i => ccr (u i)) k) = ∑ i ∈ Finset.range k, lam (u i) := by
  rw [one_sub_qAcc, Real.log_prod (fun i _ => by have := ccr_lt_one (u i); linarith), ← Finset.sum_neg_distrib]
  rfl

theorem qAcc_lt_one (u : ℕ → EReal) (k : ℕ) : qAcc (fun i => ccr (u i)) k < 1 := by
  have h : 0 < 1 - qAcc (fun i => ccr (u i)) k := by
    rw [one_sub_qAcc]; exact Finset.prod_pos fun i _ => by have := ccr_lt_one (u i); linarith
  linarith

/-- The smaller of `-c · u` and zero, times `-log 2`, is the larger of zero and `u`. -/
theorem min_mul_negLn2 (u : EReal) : min (negC * u) 0 * negLn2 = max 0 u := by
  have hl := log_two_pos
  have hneg : -(Real.log 2) < 0 := by linarith
  induction u with
  | bot => rw [negC_bot, min_eq_right le_top, zero_mul, max_eq_left bot_le]
  | top => rw [negC_top, min_eq_left bot_le, EReal.bot_mul_coe_of_neg hneg, max_eq_right le_top]
  | coe u =>
    rw [← EReal.coe_mul, ← EReal.coe_zero, ← EReal.coe_strictMono.monotone.map_min, ← EReal.coe_mul,
      ← EReal.coe_strictMono.monotone.map_max]
    congr 1
    rcases le_total 0 u with hu | hu
    · rw [max_eq_right hu, min_eq_left (by have := mul_nonneg (inv_pos.mpr hl).le hu; linarith)]
      field_simp
    · rw [max_eq_left hu, min_eq_right (by have := mul_nonneg (inv_pos.mpr hl).le (neg_nonneg.mpr hu); linarith), zero_mul]

/-- The reference's softplus of `u`. -/
def softplus (u : EReal) : EReal := max 0 u + (lam u : EReal)

theorem softplus_nonneg (u : EReal) : 0 ≤ softplus u :=
  add_nonneg (le_max_left _ _) (by exact_mod_cast lam_nonneg u)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One lane's loss: the kernel's two accumulators give the sum of the softplus values of its columns. -/
theorem lane_loss (u : ℕ → EReal) (k : ℕ) :
    (∑ i ∈ Finset.range k, min (negC * u i) 0) * negLn2
        - ((Real.log (1 - qAcc (fun i => ccr (u i)) k) : ℝ) : EReal)
      = ∑ i ∈ Finset.range k, softplus (u i) := by
  rw [sum_mul_coe_neg _ _ (fun i _ => ne_top_of_le_ne_top EReal.zero_ne_top (min_le_right _ _)) log_two_pos.le,
    sub_eq_add_neg, ← EReal.coe_neg, neg_log_qAcc, coe_sum, ← Finset.sum_add_distrib]
  exact Finset.sum_congr rfl fun i _ => by rw [min_mul_negLn2]; rfl

end Cert.Siglip

end
-- ==== Proof.Model.lean ====
/-
  What one entry of the loss matrix contributes, as the kernel computes it: plain functions of the inputs, indexed by
  natural numbers. `i` is a row, `j` a column, and the 1536 columns of a row are visited as twelve chunks of 128 lanes:
  lane `l` sees the columns `128 * c + l`.
-/
module

public import proofs.«01_k».proof.Proof.Math
public import Idealize.ShloMosaic.Lib.Pointwise

@[expose] public section

noncomputable section

namespace Cert.Siglip

open Idealize.ShloMosaic

/-- The inputs: the log temperature, the bias, the two scale vectors and the matrix of code products. -/
structure In where
  lt : EReal
  bias : EReal
  xs : ℕ → EReal
  ys : ℕ → EReal
  A : ℕ → ℕ → EReal

/-- Entry `n` of a vector of 1536 stored as 3 rows of 512. -/
def vecN (x : (⟨2, ![3, 512]⟩ : Shape).Idx → EReal) (n : ℕ) : EReal :=
  if h : n < 1536 then x (ix2 ⟨n / 512, by omega⟩ ⟨n % 512, Nat.mod_lt _ (by norm_num)⟩) else 0

/-- Entry `(i, k)` of a matrix of codes, `k` below 1408. -/
def matN (x : (⟨2, ![1536, 1408]⟩ : Shape).Idx → EReal) (i : ℕ) (k : Fin 1408) : EReal :=
  if h : i < 1536 then x (ix2 ⟨i, h⟩ k) else 0

/-- The inputs read off the arrays. -/
def inOf (x0 x1 : (⟨1, ![1]⟩ : Shape).Idx → EReal) (x2 x3 : (⟨2, ![3, 512]⟩ : Shape).Idx → EReal)
    (x4 x5 : (⟨2, ![1536, 1408]⟩ : Shape).Idx → EReal) : In where
  lt := x0 (ix1 0)
  bias := x1 (ix1 0)
  xs := vecN x2
  ys := vecN x3
  A i j := ∑ k : Fin 1408, matN x4 i k * matN x5 j k

variable (I : In)

/-- The temperature. -/
def tK : EReal := Ideal.exp I.lt
/-- The row scale with the temperature and `-1 / log 2`. -/
def aK (i : ℕ) : EReal := I.xs i * tK I * negC
/-- The row scale with the temperature and `1 / n`. -/
def bK (i : ℕ) : EReal := I.xs i * tK I * invN
/-- `-1 / log 2` times the scaled similarity. -/
def ts2 (i j : ℕ) : EReal := I.A i j * aK I i * I.ys j
/-- With the bias. -/
def v0 (i j : ℕ) : EReal := ts2 I i j + negC * I.bias
/-- With the sign of the pair. -/
def vK (i j : ℕ) : EReal := if i = j then 0 - v0 I i j else v0 I i j
/-- The sigmoid. -/
def sgK (i j : ℕ) : EReal := Ideal.div 1 (1 + Ideal.exp2 (vK I i j))
/-- The sigmoid with the sign of the pair. -/
def dK (i j : ℕ) : EReal := if i = j then 0 - sgK I i j else sgK I i j
/-- The gradient matrix with the column scale. -/
def gxK (i j : ℕ) : EReal := dK I i j * (I.ys j * (tK I * invN))
/-- The gradient matrix with the row scale. -/
def gyK (i j : ℕ) : EReal := dK I i j * bK I i
/-- The smaller side of the sigmoid. -/
def ccK (i j : ℕ) : EReal := min (sgK I i j) (1 - sgK I i j)

/-- The running `1 - Π (1 - c)`. -/
def qK (cc : ℕ → EReal) : ℕ → EReal
  | 0 => 0
  | k + 1 => qK cc k + (cc k - cc k * qK cc k)

/-- `log(1 - q)` as the kernel computes it. -/
def log1mK (q : EReal) : EReal :=
  if (1 - q) - 1 = 0 then 0 - q else Ideal.log (1 - q) * Ideal.div (0 - q) (if (1 - q) - 1 = 0 then 1 else (1 - q) - 1)

/-- One lane's loss. -/
def lossL (i l : ℕ) : EReal :=
  ((∑ c ∈ Finset.range 12, min (vK I i (128 * c + l)) 0) * negLn2
    - log1mK (qK (fun c => ccK I i (128 * c + l)) 12)) * invN
/-- One lane's temperature gradient. -/
def dltL (i l : ℕ) : EReal := (∑ c ∈ Finset.range 12, dK I i (128 * c + l) * ts2 I i (128 * c + l)) * negLn2N
/-- One lane's bias gradient. -/
def dbL (i l : ℕ) : EReal := (∑ c ∈ Finset.range 12, dK I i (128 * c + l)) * invN

/-- The sum over the lanes. -/
def lanes (f : ℕ → ℕ → EReal) (i : ℕ) : EReal := ∑ l : Fin 128, f i l.val

/-- Off the diagonal no sign changes. -/
theorem vK_off {i j : ℕ} (h : i ≠ j) : vK I i j = v0 I i j := if_neg h
theorem dK_off {i j : ℕ} (h : i ≠ j) : dK I i j = sgK I i j := if_neg h

end Cert.Siglip

end
-- ==== Proof.Buffers.lean ====
/-
  The kernel's buffers, entry by entry: the two scale columns, the code products of a block of rows, and the codes.
-/
module

public import proofs.«01_k».proof.Proof.Model
public import proofs.«01_k».proof.Proof.Gen.KernelIdeal.Frame
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

theorem negC_named : (Named.named κ "neg_log2_e" 0xBFB8AA3B#32 : Ideal .f32) = negC := IdealRules.named_const.ideal_named_scalar _ _ _ _ rfl
theorem invN_named : (Named.named κ "inv_n" 0x3A2AAAAB#32 : Ideal .f32) = invN := IdealRules.named_const.ideal_named_scalar _ _ _ _ rfl
theorem negLn2_named : (Named.named κ "neg_ln_2" 0xBF317218#32 : Ideal .f32) = negLn2 := IdealRules.named_const.ideal_named_scalar _ _ _ _ rfl
theorem negLn2N_named : (Named.named κ "neg_ln_2_over_n" 0xB9EC9820#32 : Ideal .f32) = negLn2N := IdealRules.named_const.ideal_named_scalar _ _ _ _ rfl

/-- A list of stores that are all blocks of one function, and together cover the buffer, leaves that function. -/
theorem canon_of {S : Shape} {e : EltTy} (G : S.Idx → Elt Ideal e) (L : List (View.Piece (Elt Ideal) S e))
    (hc : ∀ y : S.Idx, ∃ p ∈ L, y ∈ p.1.set) (h : View.PiecesOf G L) : View.canon L = G :=
  funext fun y => View.canon_apply_of_pieces G L h.mem y (hc y)

theorem emb_eq_idx {S : Shape} (r : Rect S) (x : r.shape.Idx) : r.emb x = r.idx x := rfl

/-- An entry of a vector stored as 3 rows of 512. -/
theorem vec_read (x : Vec Ideal S3x512 .f32) (i : Fin 3) (j : Fin 512) : x (ix2 i j) = vecN x (512 * i.val + j.val) := by
  have h : 512 * i.val + j.val < 1536 := by omega
  rw [vecN, dif_pos h]
  congr 2 <;> ext <;> simp <;> omega

/-- An entry of a matrix of codes. -/
theorem mat_read (x : Vec Ideal S1536x1408 .fp8e4m3) (i : Fin 1536) (k : Fin 1408) : x (ix2 i k) = matN x i.val k := by
  rw [matN, dif_pos i.isLt]

theorem in_lt : (inOf x0 x1 x2 x3 x4 x5).lt = x0 (ix1 0) := rfl
theorem in_bias : (inOf x0 x1 x2 x3 x4 x5).bias = x1 (ix1 0) := rfl
theorem in_xs (n : ℕ) : (inOf x0 x1 x2 x3 x4 x5).xs n = vecN x2 n := rfl
theorem in_ys (n : ℕ) : (inOf x0 x1 x2 x3 x4 x5).ys n = vecN x3 n := rfl
theorem in_A (i j : ℕ) : (inOf x0 x1 x2 x3 x4 x5).A i j = ∑ k : Fin 1408, matN x4 i k * matN x5 j k := rfl

/-- The first scale column, in every lane. -/
def aG (I : In) : S1536x128.Idx → Elt Ideal .f32 := fun y => aK I (y 0).val
/-- The second scale column, in every lane. -/
def bG (I : In) : S1536x128.Idx → Elt Ideal .f32 := fun y => bK I (y 0).val
/-- The code products of the 256 rows from row `o`. -/
def sG (I : In) (o : ℕ) : S256x1536.Idx → Elt Ideal .f32 := fun y => I.A (o + (y 0).val) (y 1).val

theorem canon_a :
    View.canon (kernelRun0_A.sl.HS0_12 (F := Ideal) c arg0 harg0 arg2 harg2 x0 x2) = aG (inOf x0 x1 x2 x3 x4 x5) := by
  refine canon_of _ _ (fun y => View.cover_of_tiledL (kernelRun0_A.sl.HS0_12 (F := Ideal) c arg0 harg0 arg2 harg2 x0 x2) S128x128.size (by sl_kernel_rfl) y) ?_
  unfold kernelRun0_A.sl.HS0_12
  refine ⟨?_, ?_, ?_, ?_, ?_, ?_, ?_, ?_, ?_, ?_, ?_, ?_, trivial⟩ <;>
  · intro x
    sl_unfold_run_values
    unfold_payloads
    idx_vars x
    pointwise [View.readAt_eq_ld, Memref.IsWhole.read_unread, negC_named, emb_eq_idx, aG, aK, tK, in_lt, in_xs, vec_read x2, ← Nat.add_assoc]

theorem canon_b :
    View.canon (kernelRun0_A.sl.HS1_12 (F := Ideal) c arg0 harg0 arg2 harg2 x0 x2) = bG (inOf x0 x1 x2 x3 x4 x5) := by
  refine canon_of _ _ (fun y => View.cover_of_tiledL (kernelRun0_A.sl.HS1_12 (F := Ideal) c arg0 harg0 arg2 harg2 x0 x2) S128x128.size (by sl_kernel_rfl) y) ?_
  unfold kernelRun0_A.sl.HS1_12
  refine ⟨?_, ?_, ?_, ?_, ?_, ?_, ?_, ?_, ?_, ?_, ?_, ?_, trivial⟩ <;>
  · intro x
    sl_unfold_run_values
    unfold_payloads
    idx_vars x
    pointwise [View.readAt_eq_ld, Memref.IsWhole.read_unread, invN_named, emb_eq_idx, bG, bK, tK, in_lt, in_xs, vec_read x2, ← Nat.add_assoc]

/-- The block of code products, after each of the six stores into it, and the two copies of the codes. -/
theorem canon_s :
    View.canon (kernelRun0_A.sl.HS2_1 (F := Ideal) c arg4 harg4 arg5 harg5 x4 x5) = sG (inOf x0 x1 x2 x3 x4 x5) 0
    ∧ View.canon (kernelRun0_A.sl.HS2_2 (F := Ideal) c arg4 harg4 arg5 harg5 x4 x5) = sG (inOf x0 x1 x2 x3 x4 x5) 256
    ∧ View.canon (kernelRun0_A.sl.HS2_3 (F := Ideal) c arg4 harg4 arg5 harg5 x4 x5) = sG (inOf x0 x1 x2 x3 x4 x5) 512
    ∧ View.canon (kernelRun0_A.sl.HS2_4 (F := Ideal) c arg4 harg4 arg5 harg5 x4 x5) = sG (inOf x0 x1 x2 x3 x4 x5) 768
    ∧ View.canon (kernelRun0_A.sl.HS2_5 (F := Ideal) c arg4 harg4 arg5 harg5 x4 x5) = sG (inOf x0 x1 x2 x3 x4 x5) 1024
    ∧ View.canon (kernelRun0_A.sl.HS2_6 (F := Ideal) c arg4 harg4 arg5 harg5 x4 x5) = sG (inOf x0 x1 x2 x3 x4 x5) 1280 := by
  unfold kernelRun0_A.sl.HS2_1 kernelRun0_A.sl.HS2_2 kernelRun0_A.sl.HS2_3 kernelRun0_A.sl.HS2_4 kernelRun0_A.sl.HS2_5 kernelRun0_A.sl.HS2_6
  refine ⟨?_, ?_, ?_, ?_, ?_, ?_⟩ <;>
  · rw [View.canon_cons_unit_lit _ _ _ (by decide)]
    funext x
    sl_unfold_run_values
    unfold_payloads
    idx_vars x
    pointwise [View.readAt_eq_ld, Memref.IsWhole.read_unread, sG, in_A, mat_read x4, mat_read x5]

theorem canon_y : View.canon (kernelRun0_A.sl.HS5_1 (F := Ideal) c arg5 harg5 x5) = x5 := by
  unfold kernelRun0_A.sl.HS5_1
  rw [View.canon_cons_unit_lit _ _ _ (by decide)]
  funext x
  sl_unfold_run_values
  unfold_payloads
  idx_vars x
  pointwise [View.readAt_eq_ld, Memref.IsWhole.read_unread]

theorem canon_x : View.canon (kernelRun0_A.sl.HS5_2 (F := Ideal) c arg4 harg4 arg5 harg5 x4 x5) = x4 := by
  unfold kernelRun0_A.sl.HS5_2
  rw [View.canon_cons_unit_lit _ _ _ (by decide)]
  funext x
  sl_unfold_run_values
  unfold_payloads
  idx_vars x
  pointwise [View.readAt_eq_ld, Memref.IsWhole.read_unread]

theorem aG_apply (I : In) (r : Fin 1536) (l : Fin 128) : aG I (ix2 r l) = aK I r.val := rfl
theorem bG_apply (I : In) (r : Fin 1536) (l : Fin 128) : bG I (ix2 r l) = bK I r.val := rfl
theorem sG_apply (I : In) (o : ℕ) (r : Fin 256) (j : Fin 1536) : sG I o (ix2 r j) = I.A (o + r.val) j.val := rfl
theorem exp2_eq (x : Ideal .f32) : FloatOps.exp2 x = Ideal.exp2 x := rfl

theorem sel_eq (x y : BitVec 32) (a b : EReal) : Scalar.select (IntOp.cmpi .eq x y) a b = if x = y then a else b := by
  have h : IntOp.cmpi .eq x y = if x = y then 1#1 else 0#1 := by
    show BitVec.ofBool (x == y) = _
    by_cases e : x = y
    · rw [beq_iff_eq.2 e, if_pos e]; rfl
    · rw [beq_eq_false_iff_ne.2 e, if_neg e]; rfl
  unfold Scalar.select
  rw [h]
  by_cases e : x = y <;> simp [e]

/-- The kernel's diagonal mask, in a strip that starts at the chunk's first row. -/
theorem sel_diag0 (r : Fin 64) (l : Fin 128) (a b : EReal) :
    Scalar.select (IntOp.cmpi .eq (BitVec.ofNat 32 r.val) (BitVec.ofNat 32 l.val)) a b = if r.val = l.val then a else b := by
  have h : (BitVec.ofNat 32 r.val = BitVec.ofNat 32 l.val) ↔ r.val = l.val := by
    rw [← BitVec.toNat_inj, BitVec.toNat_ofNat, BitVec.toNat_ofNat]; omega
  rw [sel_eq]; simp only [h]

/-- The same, with the zero offset written out. -/
theorem sel_diag00 (r : Fin 64) (l : Fin 128) (a b : EReal) :
    Scalar.select (IntOp.cmpi .eq (IntOp.addi (BitVec.ofNat 32 r.val) 0#32) (BitVec.ofNat 32 l.val)) a b = if r.val = l.val then a else b := by
  have h : IntOp.addi (BitVec.ofNat 32 r.val) 0#32 = BitVec.ofNat 32 r.val := BitVec.add_zero _
  rw [h, sel_diag0]

/-- The same, in a strip that starts at the chunk's row 64. -/
theorem sel_diag64 (r : Fin 64) (l : Fin 128) (a b : EReal) :
    Scalar.select (IntOp.cmpi .eq (IntOp.addi (BitVec.ofNat 32 r.val) 64#32) (BitVec.ofNat 32 l.val)) a b
      = if 64 + r.val = l.val then a else b := by
  have h : (IntOp.addi (BitVec.ofNat 32 r.val) 64#32 = BitVec.ofNat 32 l.val) ↔ 64 + r.val = l.val := by
    show BitVec.ofNat 32 r.val + 64#32 = _ ↔ _
    rw [← BitVec.toNat_inj, BitVec.toNat_add, BitVec.toNat_ofNat, BitVec.toNat_ofNat, BitVec.toNat_ofNat]; omega
  rw [sel_eq]; simp only [h]

theorem eq_shift {A B : ℕ} (h : B ≤ A) (a b : ℕ) : (A + a = B + b) = (A - B + a = b) := by
  apply propext; omega

end Cert.KernelIdeal.Hand

end
-- ==== Proof.Rows.lean ====
/-
  Row sums: a piece of a result that is made of two strips of the lanes' sums.
-/
module

public import proofs.«01_k».proof.Proof.Model
public import proofs.«01_k».proof.Proof.Buffers
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

/-- The row sums of two strips of 64 rows, one below the other, laid out as a row of 128. -/
def rowG (f : ℕ → ℕ → EReal) : S3x512.Idx → Elt Ideal .f32 := fun y => lanes f (512 * (y 0).val + (y 1).val)

/-- Such a piece holds what its two strips hold, and the pieces below it what they hold. -/
theorem pieces_rows (f : ℕ → ℕ → EReal) (i j : ℕ) (inb) (P Q : FVec Ideal S64x128 .f32) (L : List (View.Piece (Elt Ideal) S3x512 .f32))
    (hP : ∀ (r : Fin 64) (l : Fin 128), P (ix2 r l) = f (512 * i + j + r.val) l.val)
    (hQ : ∀ (r : Fin 64) (l : Fin 128), Q (ix2 r l) = f (512 * i + j + 64 + r.val) l.val)
    (hL : View.PiecesOf (rowG f) L) :
    View.PiecesOf (rowG f) ((⟨Rect.unit ![i, j] S1x128.size inb,
      shapeCast S1x128 (multiReduction .add [0] S128 (transpose S128x128 [1, 0]
        (concatenate S128x128 0 [⟨S64x128, P⟩, ⟨S64x128, Q⟩] concatenates_S64x128_S64x128_S128x128_d0) transposes_S128x128_p1_0_S128x128)
        (0#32) reduces_S128x128_S128 (.inl rfl) rfl) shapeCasts_S128_S1x128⟩ :
        View.Piece (Elt Ideal) S3x512 .f32) :: L) := by
  refine ⟨?_, hL⟩
  intro x
  idx_vars x
  pointwise [emb_eq_idx, rowG, lanes]
  refine Finset.sum_congr rfl fun l _ => ?_
  by_cases h : x1.val < 64
  · rw [dif_pos h, hP]
    exact congrArg (f · l.val) (by simp only [Nat.add_assoc])
  · rw [dif_neg h, hQ]
    exact congrArg (f · l.val) (by dsimp only; omega)

end Cert.KernelIdeal.Hand

end
-- ==== Proof.RowsLoss.lean ====
/-
  The loss: what the rows of the result hold.
-/
module

public import proofs.«01_k».proof.Proof.Model
public import proofs.«01_k».proof.Proof.Rows
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

set_option maxHeartbeats 16000000 in
/-- The loss: what the rows of the result hold. -/
theorem pieces_loss :
    View.PiecesOf (rowG (lossL (inOf x0 x1 x2 x3 x4 x5))) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).1 := by
  obtain ⟨hs1, hs2, hs3, hs4, hs5, hs6⟩ := canon_s c arg4 harg4 arg5 harg5 x0 x1 x2 x3 x4 x5
  have ha := canon_a c arg0 harg0 arg2 harg2 x0 x1 x2 x3 x4 x5
  have hb := canon_b c arg0 harg0 arg2 harg2 x0 x1 x2 x3 x4 x5
  unfold kernelRun0_A
  repeat' first | exact trivial | refine pieces_rows _ _ _ _ _ _ _ ?_ ?_ ?_
  all_goals
    intro r l
    sl_unfold_run_values
    unfold_payloads
    pointwise [View.readAt_eq_ld, View.readCov_eq_canon', hs1, hs2, hs3, hs4, hs5, hs6, ha, hb, Memref.IsWhole.read_unread, negC_named, invN_named, negLn2_named, negLn2N_named, vec_read x3, ← Nat.add_assoc, aG_apply, bG_apply, sG_apply, exp2_eq, sel_diag0, sel_diag00, sel_diag64]
    simp -failIfUnchanged only [lossL, Finset.sum_range_succ, Finset.sum_range_zero, Nat.reduceMul, Nat.reduceAdd, Nat.zero_add, zero_add, qK, log1mK, ccK]
    simp -failIfUnchanged (disch := omega) only [dK_off, vK_off, sgK]
    simp -failIfUnchanged only [dK, sgK, vK, v0, ts2, in_ys, in_bias, eq_shift, Nat.reduceSub, Nat.reduceLeDiff, Nat.zero_add] <;> rfl

end Cert.KernelIdeal.Hand

end
-- ==== Proof.RowsDlt.lean ====
/-
  The temperature gradient: what the rows of the result hold.
-/
module

public import proofs.«01_k».proof.Proof.Model
public import proofs.«01_k».proof.Proof.Rows
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

set_option maxHeartbeats 16000000 in
/-- The temperature gradient: what the rows of the result hold. -/
theorem pieces_dlt :
    View.PiecesOf (rowG (dltL (inOf x0 x1 x2 x3 x4 x5))) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.2.1 := by
  obtain ⟨hs1, hs2, hs3, hs4, hs5, hs6⟩ := canon_s c arg4 harg4 arg5 harg5 x0 x1 x2 x3 x4 x5
  have ha := canon_a c arg0 harg0 arg2 harg2 x0 x1 x2 x3 x4 x5
  have hb := canon_b c arg0 harg0 arg2 harg2 x0 x1 x2 x3 x4 x5
  unfold kernelRun0_A
  repeat' first | exact trivial | refine pieces_rows _ _ _ _ _ _ _ ?_ ?_ ?_
  all_goals
    intro r l
    sl_unfold_run_values
    unfold_payloads
    pointwise [View.readAt_eq_ld, View.readCov_eq_canon', hs1, hs2, hs3, hs4, hs5, hs6, ha, hb, Memref.IsWhole.read_unread, negC_named, invN_named, negLn2_named, negLn2N_named, vec_read x3, ← Nat.add_assoc, aG_apply, bG_apply, sG_apply, exp2_eq, sel_diag0, sel_diag00, sel_diag64]
    simp -failIfUnchanged only [dltL, Finset.sum_range_succ, Finset.sum_range_zero, Nat.reduceMul, Nat.reduceAdd, Nat.zero_add, zero_add]
    simp -failIfUnchanged (disch := omega) only [dK_off, vK_off, sgK]
    simp -failIfUnchanged only [dK, sgK, vK, v0, ts2, in_ys, in_bias, eq_shift, Nat.reduceSub, Nat.reduceLeDiff, Nat.zero_add]

end Cert.KernelIdeal.Hand

end
-- ==== Proof.RowsDb.lean ====
/-
  The bias gradient: what the rows of the result hold.
-/
module

public import proofs.«01_k».proof.Proof.Model
public import proofs.«01_k».proof.Proof.Rows
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

set_option maxHeartbeats 16000000 in
/-- The bias gradient: what the rows of the result hold. -/
theorem pieces_db :
    View.PiecesOf (rowG (dbL (inOf x0 x1 x2 x3 x4 x5))) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.2.2.1 := by
  obtain ⟨hs1, hs2, hs3, hs4, hs5, hs6⟩ := canon_s c arg4 harg4 arg5 harg5 x0 x1 x2 x3 x4 x5
  have ha := canon_a c arg0 harg0 arg2 harg2 x0 x1 x2 x3 x4 x5
  have hb := canon_b c arg0 harg0 arg2 harg2 x0 x1 x2 x3 x4 x5
  unfold kernelRun0_A
  repeat' first | exact trivial | refine pieces_rows _ _ _ _ _ _ _ ?_ ?_ ?_
  all_goals
    intro r l
    sl_unfold_run_values
    unfold_payloads
    pointwise [View.readAt_eq_ld, View.readCov_eq_canon', hs1, hs2, hs3, hs4, hs5, hs6, ha, hb, Memref.IsWhole.read_unread, negC_named, invN_named, negLn2_named, negLn2N_named, vec_read x3, ← Nat.add_assoc, aG_apply, bG_apply, sG_apply, exp2_eq, sel_diag0, sel_diag00, sel_diag64]
    simp -failIfUnchanged only [dbL, Finset.sum_range_succ, Finset.sum_range_zero, Nat.reduceMul, Nat.reduceAdd, Nat.zero_add, zero_add]
    simp -failIfUnchanged (disch := omega) only [dK_off, vK_off, sgK]
    simp -failIfUnchanged only [dK, sgK, vK, v0, ts2, in_ys, in_bias, eq_shift, Nat.reduceSub, Nat.reduceLeDiff, Nat.zero_add]

end Cert.KernelIdeal.Hand

end
-- ==== Proof.GradX.lean ====
/-
  The gradient matrix with the column scale, as the kernel stores it.
-/
module

public import proofs.«01_k».proof.Proof.Model
public import proofs.«01_k».proof.Proof.Buffers
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

/-- The gradient matrix with the column scale. -/
def gxG (I : In) : S1536x1536.Idx → Elt Ideal .bf16 := fun y => gxK I (y 0).val (y 1).val

set_option maxHeartbeats 64000000 in
/-- Every strip of it holds its part. -/
theorem pieces_gx : View.PiecesOf (gxG (inOf x0 x1 x2 x3 x4 x5))
    (kernelRun0_A.sl.HS3_288 (F := Ideal) c arg0 harg0 arg1 harg1 arg2 harg2 arg3 harg3 arg4 harg4 arg5 harg5 arg11 arg13 x0 x1 x2 x3 x4 x5) := by
  obtain ⟨hs1, hs2, hs3, hs4, hs5, hs6⟩ := canon_s c arg4 harg4 arg5 harg5 x0 x1 x2 x3 x4 x5
  have ha := canon_a c arg0 harg0 arg2 harg2 x0 x1 x2 x3 x4 x5
  have hb := canon_b c arg0 harg0 arg2 harg2 x0 x1 x2 x3 x4 x5
  unfold kernelRun0_A.sl.HS3_288 kernelRun0_A.sl.HS3_240 kernelRun0_A.sl.HS3_192 kernelRun0_A.sl.HS3_144 kernelRun0_A.sl.HS3_96 kernelRun0_A.sl.HS3_48
  repeat' first | exact trivial | refine And.intro ?_ ?_
  all_goals
    intro x
    sl_unfold_run_values
    unfold_payloads
    idx_vars x
    pointwise [View.readAt_eq_ld, View.readCov_eq_canon', hs1, hs2, hs3, hs4, hs5, hs6, ha, hb, Memref.IsWhole.read_unread, negC_named, invN_named, emb_eq_idx, vec_read x3, ← Nat.add_assoc, aG_apply, bG_apply, sG_apply, exp2_eq, sel_diag0, sel_diag00, sel_diag64, gxG, gxK]
    simp -failIfUnchanged (disch := omega) only [dK_off, vK_off, sgK]
    simp -failIfUnchanged only [dK, sgK, vK, v0, ts2, tK, in_lt, in_ys, in_bias, eq_shift, Nat.reduceSub, Nat.reduceLeDiff, Nat.zero_add]

end Cert.KernelIdeal.Hand

end
-- ==== Proof.GradY.lean ====
/-
  The gradient matrix with the row scale, as the kernel stores it.
-/
module

public import proofs.«01_k».proof.Proof.Model
public import proofs.«01_k».proof.Proof.Buffers
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

/-- The gradient matrix with the row scale. -/
def gyG (I : In) : S1536x1536.Idx → Elt Ideal .bf16 := fun y => gyK I (y 0).val (y 1).val

set_option maxHeartbeats 64000000 in
/-- Every strip of it holds its part. -/
theorem pieces_gy : View.PiecesOf (gyG (inOf x0 x1 x2 x3 x4 x5))
    (kernelRun0_A.sl.HS4_288 (F := Ideal) c arg0 harg0 arg1 harg1 arg2 harg2 arg3 harg3 arg4 harg4 arg5 harg5 arg11 arg12 arg13 x0 x1 x2 x3 x4 x5) := by
  obtain ⟨hs1, hs2, hs3, hs4, hs5, hs6⟩ := canon_s c arg4 harg4 arg5 harg5 x0 x1 x2 x3 x4 x5
  have ha := canon_a c arg0 harg0 arg2 harg2 x0 x1 x2 x3 x4 x5
  have hb := canon_b c arg0 harg0 arg2 harg2 x0 x1 x2 x3 x4 x5
  unfold kernelRun0_A.sl.HS4_288
  repeat' first | exact trivial | refine And.intro ?_ ?_
  all_goals
    intro x
    sl_unfold_run_values
    unfold_payloads
    idx_vars x
    pointwise [View.readAt_eq_ld, View.readCov_eq_canon', hs1, hs2, hs3, hs4, hs5, hs6, ha, hb, Memref.IsWhole.read_unread, negC_named, invN_named, emb_eq_idx, vec_read x3, ← Nat.add_assoc, aG_apply, bG_apply, sG_apply, exp2_eq, sel_diag0, sel_diag00, sel_diag64, gyG, gyK]
    simp -failIfUnchanged (disch := omega) only [dK_off, vK_off, sgK]
    simp -failIfUnchanged only [dK, sgK, vK, v0, ts2, in_ys, in_bias, eq_shift, Nat.reduceSub, Nat.reduceLeDiff, Nat.zero_add]

end Cert.KernelIdeal.Hand

end
-- ==== Proof.Products.lean ====
/-
  The two matrix gradients: products of a gradient matrix with the codes of the other side.
-/
module

public import proofs.«01_k».proof.Proof.Model
public import proofs.«01_k».proof.Proof.Buffers
public import proofs.«01_k».proof.Proof.GradX
public import proofs.«01_k».proof.Proof.GradY
public import Idealize.ShloMosaic.Lib.Tactic.RunNames
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Siglip

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

/-- A load of what pieces left in a buffer, when every piece agrees with one array and they cover what is loaded. -/
theorem readCov_of {sp : Space} {S : Shape} {e : EltTy} (G : S.Idx → Elt Ideal e) (v : View sig .tc sp S e) (L : List (View.Piece (Elt Ideal) S e))
    (B : LoadRect S) (hL : View.PiecesOf G L) (t : LoadRect.Cov) (h : LoadRect.covChk (L.map Sigma.fst) B t = true) :
    v.readCov L B = fun j => G (B.idx j) := by
  rw [View.readCov_eq_canon']
  exact funext fun j => View.canon_apply_of_pieces G L hL.mem _ (LoadRect.cover_of_covChk L B t h j)

theorem piecesOf_drop {S : Shape} {e : EltTy} (G : S.Idx → Elt Ideal e) : ∀ (n : ℕ) (L : List (View.Piece (Elt Ideal) S e)),
    View.PiecesOf G L → View.PiecesOf G (L.drop n)
  | 0, _, h => h
  | _ + 1, [], _ => trivial
  | n + 1, _ :: L, h => piecesOf_drop G n L h.2

/-- The pieces of one strip of 64 rows cover it, chunk by chunk. -/
def cols : ℕ → ℕ → LoadRect.Cov
  | i, 0 => .leaf i
  | i, n + 1 => .split 1 128 (.leaf i) (cols (i - 1) n)
/-- The strips cover a block of rows. -/
def rows : ℕ → ℕ → LoadRect.Cov
  | i, 0 => cols i 11
  | i, n + 1 => .split 0 64 (cols i 11) (rows (i - 12) n)

/-- Two columns of a matrix product: the sum over the shared index. -/
def mulG (f : ℕ → ℕ → EReal) (x : S1536x1408.Idx → EReal) : S1536x1408.Idx → Elt Ideal .bf16 :=
  fun y => ∑ j : Fin 1536, f (y 0).val j.val * x (ix2 j (y 1))

theorem gxG_apply (I : In) (i j : Fin 1536) : gxG I (ix2 i j) = gxK I i.val j.val := rfl
theorem gyG_apply (I : In) (i j : Fin 1536) : gyG I (ix2 i j) = gyK I i.val j.val := rfl

set_option maxHeartbeats 4000000 in
/-- What the rows of the first matrix gradient hold. -/
theorem canon_dx : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.1
    = mulG (gxK (inOf x0 x1 x2 x3 x4 x5)) x5 := by
  refine canon_of _ _ (fun y => View.cover_of_tiledL (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.1 S256x1408.size (by sl_kernel_rfl) y) ?_
  have h6 := pieces_gx c arg0 harg0 arg1 harg1 arg2 harg2 arg3 harg3 arg4 harg4 arg5 harg5 arg11 arg13 x0 x1 x2 x3 x4 x5
  have h5 : View.PiecesOf _ (kernelRun0_A.sl.HS3_240 (F := Ideal) c arg0 harg0 arg1 harg1 arg2 harg2 arg3 harg3 arg4 harg4 arg5 harg5 arg11 arg13 x0 x1 x2 x3 x4 x5) := piecesOf_drop _ 48 _ h6
  have h4 : View.PiecesOf _ (kernelRun0_A.sl.HS3_192 (F := Ideal) c arg0 harg0 arg1 harg1 arg2 harg2 arg3 harg3 arg4 harg4 arg5 harg5 arg11 arg13 x0 x1 x2 x3 x4 x5) := piecesOf_drop _ 48 _ h5
  have h3 : View.PiecesOf _ (kernelRun0_A.sl.HS3_144 (F := Ideal) c arg0 harg0 arg1 harg1 arg2 harg2 arg3 harg3 arg4 harg4 arg5 harg5 arg11 arg13 x0 x1 x2 x3 x4 x5) := piecesOf_drop _ 48 _ h4
  have h2 : View.PiecesOf _ (kernelRun0_A.sl.HS3_96 (F := Ideal) c arg0 harg0 arg1 harg1 arg2 harg2 arg3 harg3 arg4 harg4 arg5 harg5 arg11 arg13 x0 x1 x2 x3 x4 x5) := piecesOf_drop _ 48 _ h3
  have h1 : View.PiecesOf _ (kernelRun0_A.sl.HS3_48 (F := Ideal) c arg0 harg0 arg1 harg1 arg2 harg2 arg3 harg3 arg4 harg4 arg5 harg5 arg11 arg13 x0 x1 x2 x3 x4 x5) := piecesOf_drop _ 48 _ h2
  have hy := canon_y c arg5 harg5 x5
  unfold kernelRun0_A
  repeat' first | exact trivial | refine And.intro ?_ ?_
  all_goals
    intro x
    sl_unfold_run_values
    first
      | rw [readCov_of _ _ _ _ h6 (rows 47 3) (by sl_kernel_rfl)]
      | rw [readCov_of _ _ _ _ h5 (rows 47 3) (by sl_kernel_rfl)]
      | rw [readCov_of _ _ _ _ h4 (rows 47 3) (by sl_kernel_rfl)]
      | rw [readCov_of _ _ _ _ h3 (rows 47 3) (by sl_kernel_rfl)]
      | rw [readCov_of _ _ _ _ h2 (rows 47 3) (by sl_kernel_rfl)]
      | rw [readCov_of _ _ _ _ h1 (rows 47 3) (by sl_kernel_rfl)]
    unfold_payloads
    idx_vars x
    pointwise [View.readCov_eq_canon', hy, emb_eq_idx, gxG_apply, mulG]

set_option maxHeartbeats 4000000 in
/-- What the rows of the second matrix gradient hold. -/
theorem canon_dy : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.1
    = mulG (fun j i => gyK (inOf x0 x1 x2 x3 x4 x5) i j) x4 := by
  refine canon_of _ _ (fun y => View.cover_of_tiledL (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.2.1 S256x1408.size (by sl_kernel_rfl) y) ?_
  have hg := canon_of _ _ (fun y => View.cover_of_tiledL (kernelRun0_A.sl.HS4_288 (F := Ideal) c arg0 harg0 arg1 harg1 arg2 harg2 arg3 harg3 arg4 harg4 arg5 harg5 arg11 arg12 arg13 x0 x1 x2 x3 x4 x5) S64x128.size (by sl_kernel_rfl) y)
    (pieces_gy c arg0 harg0 arg1 harg1 arg2 harg2 arg3 harg3 arg4 harg4 arg5 harg5 arg11 arg12 arg13 x0 x1 x2 x3 x4 x5)
  have hx := canon_x c arg4 harg4 arg5 harg5 x4 x5
  unfold kernelRun0_A
  repeat' first | exact trivial | refine And.intro ?_ ?_
  all_goals
    intro x
    sl_unfold_run_values
    unfold_payloads
    idx_vars x
    pointwise [View.readCov_eq_canon', hg, hx, emb_eq_idx, gyG_apply, mulG]

end Cert.KernelIdeal.Hand

end
-- ==== Proof.Arrays.lean ====
/-
  The kernel: what its arguments are to the region and what its result arrays hold.
-/
module

public import proofs.«01_k».proof.Proof.RowsLoss
public import proofs.«01_k».proof.Proof.RowsDlt
public import proofs.«01_k».proof.Proof.RowsDb
public import proofs.«01_k».proof.Proof.Products
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Hand

open Idealize.ShloMosaic Idealize.ShloMosaic.TcCoe Idealize.SL.Sem Cert.KernelIdeal Cert.KernelIdeal.Gen Cert.Siglip
open Idealize.ShloMosaic.Pipeline (Dat)

section

variable (c : Dev nD) (arg0 : Memref sig .tc .smem S1 .f32) (harg0 : arg0.IsWhole) (arg1 : Memref sig .tc .smem S1 .f32) (harg1 : arg1.IsWhole)
  (arg2 : Memref sig .tc .vmem S3x512 .f32) (harg2 : arg2.IsWhole) (arg3 : Memref sig .tc .vmem S3x512 .f32) (harg3 : arg3.IsWhole)
  (arg4 : Memref sig .tc .vmem S1536x1408 .fp8e4m3) (harg4 : arg4.IsWhole) (arg5 : Memref sig .tc .vmem S1536x1408 .fp8e4m3) (harg5 : arg5.IsWhole)
  (arg6 : Memref sig .tc .vmem S3x512 .f32) (harg6 : arg6.IsWhole) (arg7 : Memref sig .tc .vmem S1536x1408 .bf16) (harg7 : arg7.IsWhole)
  (arg8 : Memref sig .tc .vmem S1536x1408 .bf16) (harg8 : arg8.IsWhole) (arg9 : Memref sig .tc .vmem S3x512 .f32) (harg9 : arg9.IsWhole)
  (arg10 : Memref sig .tc .vmem S3x512 .f32) (harg10 : arg10.IsWhole) (arg11 : Memref sig .tc .vmem S1536x128 .f32) (harg11 : arg11.IsWhole)
  (arg12 : Memref sig .tc .vmem S1536x128 .f32) (harg12 : arg12.IsWhole) (arg13 : Memref sig .tc .vmem S256x1536 .f32) (harg13 : arg13.IsWhole)
  (arg14 : Memref sig .tc .vmem S1536x1536 .bf16) (harg14 : arg14.IsWhole) (arg15 : Memref sig .tc .vmem S1536x1536 .bf16) (harg15 : arg15.IsWhole)
  (arg16 : Memref sig .tc .vmem S1536x1408 .bf16) (harg16 : arg16.IsWhole)
  (x0 : Vec Ideal S1 .f32) (x1 : Vec Ideal S1 .f32) (x2 : Vec Ideal S3x512 .f32) (x3 : Vec Ideal S3x512 .f32)
  (x4 : Vec Ideal S1536x1408 .fp8e4m3) (x5 : Vec Ideal S1536x1408 .fp8e4m3)

/-- The loss: what the body leaves. -/
theorem out6 : out0_A_6 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 = rowG (lossL (inOf x0 x1 x2 x3 x4 x5)) := by
  unfold out0_A_6
  rw [View.read_writes_junk_eq_canon]
  exact canon_of _ _ (fun y => cover0_A_6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y) (pieces_loss c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)

/-- The first matrix gradient: what the body leaves. -/
theorem out7 : out0_A_7 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 = mulG (gxK (inOf x0 x1 x2 x3 x4 x5)) x5 := by
  unfold out0_A_7
  rw [View.read_writes_junk_eq_canon]
  exact canon_dx c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5

/-- The second matrix gradient: what the body leaves. -/
theorem out8 : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 = mulG (fun j i => gyK (inOf x0 x1 x2 x3 x4 x5) i j) x4 := by
  unfold out0_A_8
  rw [View.read_writes_junk_eq_canon]
  exact canon_dy c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5

/-- The temperature gradient: what the body leaves. -/
theorem out9 : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 = rowG (dltL (inOf x0 x1 x2 x3 x4 x5)) := by
  unfold out0_A_9
  rw [View.read_writes_junk_eq_canon]
  exact canon_of _ _ (fun y => cover0_A_9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y) (pieces_dlt c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)

/-- The bias gradient: what the body leaves. -/
theorem out10 : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 = rowG (dbL (inOf x0 x1 x2 x3 x4 x5)) := by
  unfold out0_A_10
  rw [View.read_writes_junk_eq_canon]
  exact canon_of _ _ (fun y => cover0_A_10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 y) (pieces_db c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)

end

variable (m : (ℓ : Loc nD τ sig) → Buf (Elt Ideal) ℓ) (c : Dev nD)

/-- The arguments as the region finds them. -/
theorem V0 : V m c main_v0 = shapeCast S1 (m ((c : Thread nD τ).loc main_arg4)) shapeCasts_S_S1 := by
  unfold_abbrev_sides; after_results; rfl
theorem V1 : V m c main_v1 = shapeCast S1 (m ((c : Thread nD τ).loc main_arg5)) shapeCasts_S_S1 := by
  unfold_abbrev_sides; after_results; rfl
theorem V2 : V m c main_v2 = shapeCast S1536x1408 (m ((c : Thread nD τ).loc main_arg0)) shapeCasts_S3x512x1408_S1536x1408 := by
  unfold_abbrev_sides; after_results; rfl
theorem V3 : V m c main_v3 = shapeCast S1536x1408 (m ((c : Thread nD τ).loc main_arg2)) shapeCasts_S3x512x1408_S1536x1408 := by
  unfold_abbrev_sides; after_results; rfl

/-- Every window's block index at the one point. -/
theorem idx : ∀ t : Fin cfg0.N, win0_0.index t = ![0] ∧ win0_1.index t = ![0] ∧ win0_2.index t = ![0, 0]
    ∧ win0_3.index t = ![0, 0] ∧ win0_4.index t = ![0, 0] ∧ win0_5.index t = ![0, 0] :=
  (by decide +kernel : ∀ t : Fin grid0.N, _)

/-- The input blocks at the one point are the arrays. -/
theorem iblk0 : iblk m c 0 t0_0 = V m c main_v0 := by blk_ext! [iblk, idx t0_0]
theorem iblk1 : iblk m c 1 t0_0 = V m c main_v1 := by blk_ext! [iblk, idx t0_0]
theorem iblk2 : iblk m c 2 t0_0 = m ((c : Thread nD τ).loc main_arg1) := by rw [← V_main_arg1 m c]; blk_ext! [iblk, idx t0_0]
theorem iblk3 : iblk m c 3 t0_0 = m ((c : Thread nD τ).loc main_arg3) := by rw [← V_main_arg3 m c]; blk_ext! [iblk, idx t0_0]
theorem iblk4 : iblk m c 4 t0_0 = V m c main_v2 := by blk_ext! [iblk, idx t0_0]
theorem iblk5 : iblk m c 5 t0_0 = V m c main_v3 := by blk_ext! [iblk, idx t0_0]

/-- The inputs of the kernel. -/
def inp : In := inOf (V m c main_v0) (V m c main_v1) (m ((c : Thread nD τ).loc main_arg1)) (m ((c : Thread nD τ).loc main_arg3)) (V m c main_v2) (V m c main_v3)

/-- The loss array. -/
theorem final6 : (dats m 0 c).arrAt 6 cfg0.N = rowG (lossL (inp m c)) := by
  refine (dats m 0 c).arrAt_eq_of_after_last 6 t0_0 (by decide +kernel) _ fun j => ?_
  blk_simp
  rw [after0_6]
  unfold outsAt0
  dsimp only
  rw [out6, iblk0, iblk1, iblk2, iblk3, iblk4, iblk5]
  rfl

/-- The first matrix gradient array. -/
theorem final7 : (dats m 0 c).arrAt 7 cfg0.N = mulG (gxK (inp m c)) (V m c main_v3) := by
  refine (dats m 0 c).arrAt_eq_of_after_last 7 t0_0 (by decide +kernel) _ fun j => ?_
  blk_simp
  rw [after0_7]
  unfold outsAt0
  dsimp only
  rw [out7, iblk0, iblk1, iblk2, iblk3, iblk4, iblk5]
  rfl

/-- The second matrix gradient array. -/
theorem final8 : (dats m 0 c).arrAt 8 cfg0.N = mulG (fun j i => gyK (inp m c) i j) (V m c main_v2) := by
  refine (dats m 0 c).arrAt_eq_of_after_last 8 t0_0 (by decide +kernel) _ fun j => ?_
  blk_simp
  rw [after0_8]
  unfold outsAt0
  dsimp only
  rw [out8, iblk0, iblk1, iblk2, iblk3, iblk4, iblk5]
  rfl

/-- The temperature gradient array. -/
theorem final9 : (dats m 0 c).arrAt 9 cfg0.N = rowG (dltL (inp m c)) := by
  refine (dats m 0 c).arrAt_eq_of_after_last 9 t0_0 (by decide +kernel) _ fun j => ?_
  blk_simp
  rw [after0_9]
  unfold outsAt0
  dsimp only
  rw [out9, iblk0, iblk1, iblk2, iblk3, iblk4, iblk5]
  rfl

/-- The bias gradient array. -/
theorem final10 : (dats m 0 c).arrAt 10 cfg0.N = rowG (dbL (inp m c)) := by
  refine (dats m 0 c).arrAt_eq_of_after_last 10 t0_0 (by decide +kernel) _ fun j => ?_
  blk_simp
  rw [after0_10]
  unfold outsAt0
  dsimp only
  rw [out10, iblk0, iblk1, iblk2, iblk3, iblk4, iblk5]
  rfl

end Cert.KernelIdeal.Hand

end
-- ==== Proof.Equation.lean ====
/-
  The equation: the kernel's lane sums and gradient entries are the reference's, when the bias is a real number.
-/
module

public import proofs.«01_k».proof.Proof.Model
public import proofs.«01_k».proof.Proof.Math

@[expose] public section

noncomputable section

namespace Cert.Siglip

open Idealize.ShloMosaic

variable (I : In)

/-! ## The reference, entry by entry -/

/-- The scaled similarity. -/
def tsR (i j : ℕ) : EReal := tK I * ((I.A i j * I.xs i) * I.ys j)
/-- The label of a pair. -/
def zR (i j : ℕ) : EReal := if i = j then 1 else -1
/-- The logit with the sign of the pair. -/
def uR (i j : ℕ) : EReal := (0 - zR i j) * (tsR I i j + I.bias)
/-- The gradient in the logit. -/
def gR (i j : ℕ) : EReal := ((0 - zR i j) * Ideal.logistic (uR I i j)) * invN
/-- A row's loss. -/
def lossR (i : ℕ) : EReal := (∑ j : Fin 1536, (max 0 (uR I i j.val)
  + Ideal.log1p (Ideal.exp (0 - max (0 - uR I i j.val) (-(0 - uR I i j.val)))))) * invN
/-- A row's temperature gradient. -/
def dltR (i : ℕ) : EReal := ∑ j : Fin 1536, gR I i j.val * tsR I i j.val
/-- A row's bias gradient. -/
def dbR (i : ℕ) : EReal := ∑ j : Fin 1536, gR I i j.val
/-- The gradient matrix with the column scale. -/
def gxR (i j : ℕ) : EReal := (tK I * gR I i j) * I.ys j
/-- The gradient matrix with the row scale. -/
def gyR (i j : ℕ) : EReal := (tK I * gR I i j) * I.xs i

/-! ## The entries -/

theorem neg_z {i j : ℕ} (x : EReal) : (0 - zR i j) * x = if i = j then 0 - x else x := by
  unfold zR
  by_cases h : i = j
  · rw [if_pos h, if_pos h, zero_sub, zero_sub, neg_mul, one_mul]
  · rw [if_neg h, if_neg h, zero_sub, neg_neg, one_mul]

theorem ts2_eq (i j : ℕ) : ts2 I i j = negC * tsR I i j := by
  unfold ts2 aK tsR
  ac_rfl

variable {I}

/-- The kernel's exponent is `-1 / log 2` times the reference's logit. -/
theorem vK_eq (hb : I.bias ≠ ⊤) (hb' : I.bias ≠ ⊥) (i j : ℕ) : vK I i j = negC * uR I i j := by
  rw [uR, neg_z]
  unfold vK v0
  rw [ts2_eq, negC_add _ hb hb']
  by_cases h : i = j
  · rw [if_pos h, if_pos h, zero_sub, zero_sub, mul_neg]
  · rw [if_neg h, if_neg h]

theorem sgK_eq (hb : I.bias ≠ ⊤) (hb' : I.bias ≠ ⊥) (i j : ℕ) : sgK I i j = Ideal.logistic (uR I i j) := by
  rw [sgK, vK_eq hb hb', sig_eq]

theorem dK_eq (hb : I.bias ≠ ⊤) (hb' : I.bias ≠ ⊥) (i j : ℕ) :
    dK I i j = (0 - zR i j) * Ideal.logistic (uR I i j) := by
  rw [dK, sgK_eq hb hb', neg_z]

theorem dK_invN (hb : I.bias ≠ ⊤) (hb' : I.bias ≠ ⊥) (i j : ℕ) : dK I i j * invN = gR I i j := by
  rw [dK_eq hb hb', gR]

theorem gx_eq (hb : I.bias ≠ ⊤) (hb' : I.bias ≠ ⊥) (i j : ℕ) : gxK I i j = gxR I i j := by
  rw [gxK, gxR, ← dK_invN hb hb']; ac_rfl

theorem gy_eq (hb : I.bias ≠ ⊤) (hb' : I.bias ≠ ⊥) (i j : ℕ) : gyK I i j = gyR I i j := by
  rw [gyK, gyR, ← dK_invN hb hb', bK]; ac_rfl

/-- Where the scaled similarity is the infinity that would spoil a sum, the sigmoid is zero. -/
theorem dK_mul_ne_top (hb : I.bias ≠ ⊤) (hb' : I.bias ≠ ⊥) (i j : ℕ) : dK I i j * ts2 I i j ≠ ⊤ := by
  rw [dK, sgK_eq hb hb', ts2_eq, logistic_eq, uR, neg_z]
  have h0 (u : EReal) : (sg u : EReal) * ⊥ ≠ ⊤ := by
    rcases (sg_nonneg u).eq_or_lt with h | h
    · rw [← h]; simp
    · rw [EReal.coe_mul_bot_of_pos h]; simp
  have h1 (u : EReal) : (0 - (sg u : EReal)) * ⊤ ≠ ⊤ := by
    rw [zero_sub, ← EReal.coe_neg]
    rcases (sg_nonneg u).eq_or_lt with h | h
    · rw [← h]; simp
    · rw [EReal.coe_mul_top_of_neg (by linarith)]; simp
  generalize tsR I i j = s
  generalize I.bias = b at hb hb' ⊢
  induction s with
  | bot =>
    rw [negC_bot]
    by_cases h : i = j
    · rw [if_pos h]; exact h1 _
    · rw [if_neg h, if_neg h, EReal.bot_add, sg_bot]; simp
  | top =>
    rw [negC_top]
    by_cases h : i = j
    · rw [if_pos h, if_pos h, EReal.top_add_of_ne_bot hb', zero_sub ⊤, EReal.neg_top, sg_bot]; simp
    · rw [if_neg h]; exact h0 _
  | coe r =>
    rw [← EReal.coe_mul]
    by_cases h : i = j
    · rw [if_pos h, zero_sub, ← EReal.coe_neg, ← EReal.coe_mul]; exact EReal.coe_ne_top _
    · rw [if_neg h, ← EReal.coe_mul]; exact EReal.coe_ne_top _

/-! ## Sums over the lanes -/

/-- Twelve chunks of 128 lanes are the 1536 columns. -/
theorem sum_lanes (f : ℕ → EReal) :
    ∑ l : Fin 128, ∑ c ∈ Finset.range 12, f (128 * c + l.val) = ∑ j : Fin 1536, f j.val := by
  rw [Finset.sum_comm, ← Fin.sum_univ_eq_sum_range (fun c => ∑ l : Fin 128, f (128 * c + l.val)) 12,
    ← Fintype.sum_prod_type']
  refine Fintype.sum_equiv (finProdFinEquiv (m := 12) (n := 128)) _ _ fun x => ?_
  congr 1
  simp [finProdFinEquiv]
  ring

theorem db_eq (hb : I.bias ≠ ⊤) (hb' : I.bias ≠ ⊥) (i : ℕ) : lanes (dbL I) i = dbR I i := by
  unfold lanes dbL dbR
  rw [← sum_lanes]
  refine Finset.sum_congr rfl fun l _ => ?_
  rw [sum_mul_coe _ _ (by norm_num)]
  exact Finset.sum_congr rfl fun c _ => dK_invN hb hb' _ _

theorem negC_negLn2N : negC * negLn2N = invN := by
  have h := log_two_pos.ne'
  rw [← EReal.coe_mul]
  congr 1
  field_simp

theorem dlt_eq (hb : I.bias ≠ ⊤) (hb' : I.bias ≠ ⊥) (i : ℕ) : lanes (dltL I) i = dltR I i := by
  unfold lanes dltL dltR
  rw [← sum_lanes (fun j => gR I i j * tsR I i j)]
  refine Finset.sum_congr rfl fun l _ => ?_
  rw [sum_mul_coe_neg _ _ (fun c _ => dK_mul_ne_top hb hb' _ _) (by have := log_two_pos; positivity)]
  refine Finset.sum_congr rfl fun c _ => ?_
  rw [← dK_invN hb hb', ts2_eq, ← negC_negLn2N]
  ac_rfl

theorem qK_eq (u : ℕ → EReal) (cc : ℕ → EReal) (h : ∀ k, cc k = (ccr (u k) : EReal)) (k : ℕ) :
    qK cc k = (qAcc (fun c => ccr (u c)) k : EReal) := by
  induction k with
  | zero => rfl
  | succ k ih =>
    rw [qK, ih, h, qAcc]
    simp only [EReal.coe_add, EReal.coe_sub, EReal.coe_mul]

theorem loss_eq (hb : I.bias ≠ ⊤) (hb' : I.bias ≠ ⊥) (i : ℕ) : lanes (lossL I) i = lossR I i := by
  have hj (j : ℕ) : max 0 (uR I i j) + Ideal.log1p (Ideal.exp (0 - max (0 - uR I i j) (-(0 - uR I i j)))) = softplus (uR I i j) := by
    rw [tail_eq]; rfl
  unfold lanes lossL lossR
  simp only [hj]
  rw [sum_mul_coe _ _ (by norm_num), ← sum_lanes (fun j => softplus (uR I i j) * invN)]
  refine Finset.sum_congr rfl fun l _ => ?_
  rw [← sum_mul_coe _ _ (by norm_num), ← lane_loss]
  have hq := qK_eq (fun c => uR I i (128 * c + l.val)) (fun c => ccK I i (128 * c + l.val)) (fun c => by
    rw [ccK, sgK_eq hb hb', logistic_eq, min_sig]) 12
  have hlog := log1m_eq (qAcc_lt_one (fun c => uR I i (128 * c + l.val)) 12) _ rfl
  rw [hq]
  unfold log1mK
  rw [hlog]
  simp only [vK_eq hb hb']

end Cert.Siglip

end
-- ==== Proof.RefBody.lean ====
/-
  What the reference's block computes, entry by entry.
-/
module

public import proofs.«01_k».proof.Proof.Equation
public import proofs.«01_k».proof.Proof.Gen.ReferenceIdeal.Frame

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen Cert.Siglip

/-- The inputs read off the blocks the reference loads. -/
def inRef (P0 P1 : S1536x1408.Idx → EReal) (P2 : S1536x1.Idx → EReal) (P3 : S1x1536.Idx → EReal) (P4 P5 : S1x1.Idx → EReal) : In where
  lt := P4 (ix2 0 0)
  bias := P5 (ix2 0 0)
  xs i := if h : i < 1536 then P2 (ix2 ⟨i, h⟩ 0) else 0
  ys j := if h : j < 1536 then P3 (ix2 0 ⟨j, h⟩) else 0
  A i j := ∑ k : Fin 1408, matN P0 i k * matN P1 j k

theorem invN_named : (Named.named (F := Ideal) κ "inv_n" (0x3A2AAAAB#32 : BitVec 32) : Ideal .f32) = invN :=
  IdealRules.named_const.ideal_named_scalar _ _ _ _ rfl

variable (P0 P1 : Vec Ideal S1536x1408 .fp8e4m3) (P2 : Vec Ideal S1536x1 .f32) (P3 : Vec Ideal S1x1536 .f32) (P4 P5 : Vec Ideal S1x1 .f32)

theorem neg_one_f32 : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- The mask of the diagonal of the whole matrix. -/
theorem sel_diag (i j : Fin 1536) (a b : EReal) :
    Scalar.select (IntOp.cmpi .eq (BitVec.ofNat 32 i.val) (BitVec.ofNat 32 j.val)) a b = if i.val = j.val then a else b := by
  have h : (BitVec.ofNat 32 i.val = BitVec.ofNat 32 j.val) ↔ i.val = j.val := by
    rw [← BitVec.toNat_inj, BitVec.toNat_ofNat, BitVec.toNat_ofNat]; omega
  have h' : IntOp.cmpi .eq (BitVec.ofNat 32 i.val) (BitVec.ofNat 32 j.val) = if i.val = j.val then 1#1 else 0#1 := by
    show BitVec.ofBool (BitVec.ofNat 32 i.val == BitVec.ofNat 32 j.val) = _
    by_cases e : i.val = j.val
    · rw [beq_iff_eq.2 (h.2 e), if_pos e]; rfl
    · rw [beq_eq_false_iff_ne.2 (mt h.1 e), if_neg e]; rfl
  unfold Scalar.select
  rw [h']
  by_cases e : i.val = j.val <;> simp [e]

theorem in_xs (i : Fin 1536) : (inRef P0 P1 P2 P3 P4 P5).xs i.val = P2 (ix2 i 0) := dif_pos i.isLt
theorem in_ys (j : Fin 1536) : (inRef P0 P1 P2 P3 P4 P5).ys j.val = P3 (ix2 0 j) := dif_pos j.isLt
theorem in_A (i j : Fin 1536) : (inRef P0 P1 P2 P3 P4 P5).A i.val j.val = ∑ k : Fin 1408, P0 (ix2 i k) * P1 (ix2 j k) := by
  show ∑ k : Fin 1408, matN P0 i.val k * matN P1 j.val k = _
  refine Finset.sum_congr rfl fun k _ => ?_
  rw [matN, matN, dif_pos i.isLt, dif_pos j.isLt]

theorem ts_apply (i j : Fin 1536) : k0_pay6 P0 P1 P2 P3 P4 (ix2 i j) = tsR (inRef P0 P1 P2 P3 P4 P5) i.val j.val := by
  unfold_payloads
  pointwise []
  rw [tsR, in_A, in_xs, in_ys]; rfl

theorem z_apply (i j : Fin 1536) : k0_pay7 (F := Ideal) (ix2 i j) = zR i.val j.val := by
  unfold_payloads
  pointwise []
  rw [sel_diag, neg_one_f32]; rfl

theorem u_apply (i j : Fin 1536) : k0_pay8 P0 P1 P2 P3 P4 P5 (ix2 i j) = uR (inRef P0 P1 P2 P3 P4 P5) i.val j.val := by
  unfold k0_pay8
  pointwise [ts_apply P0 P1 P2 P3 P4 P5, z_apply]
  rfl

theorem loss_apply (a : Fin 3) (b : Fin 512) : k0_pay16 (k0_pay9 P0 P1 P2 P3 P4 P5) (k0_pay11 P0 P1 P2 P3 P4 P5) (k0_pay12 P0 P1 P2 P3 P4 P5) (k0_pay13 P0 P1 P2 P3 P4 P5) (ix2 a b)
    = lossR (inRef P0 P1 P2 P3 P4 P5) (512 * a.val + b.val) := by
  unfold k0_pay16 k0_pay9 k0_pay11 k0_pay12 k0_pay13 k0_pay10
  pointwise [u_apply P0 P1 P2 P3 P4 P5, invN_named]
  simp only [ne_eq, not_true_eq_false, if_false]
  rw [lossR, Nat.mul_comm 512]
  rfl

theorem dlt_apply (a : Fin 3) (b : Fin 512) : k0_pay19 (k0_pay6 P0 P1 P2 P3 P4) (k0_pay7 (F := Ideal)) (k0_pay8 P0 P1 P2 P3 P4 P5) (ix2 a b)
    = dltR (inRef P0 P1 P2 P3 P4 P5) (512 * a.val + b.val) := by
  unfold k0_pay19 k0_pay14
  pointwise [u_apply P0 P1 P2 P3 P4 P5, z_apply, ts_apply P0 P1 P2 P3 P4 P5, invN_named]
  rw [Nat.mul_comm 512]; rfl

theorem db_apply (a : Fin 3) (b : Fin 512) : k0_pay20 (k0_pay7 (F := Ideal)) (k0_pay8 P0 P1 P2 P3 P4 P5) (ix2 a b)
    = dbR (inRef P0 P1 P2 P3 P4 P5) (512 * a.val + b.val) := by
  unfold k0_pay20 k0_pay14
  pointwise [u_apply P0 P1 P2 P3 P4 P5, z_apply, invN_named]
  rw [Nat.mul_comm 512]; rfl

theorem dx_apply (i : Fin 1536) (k : Fin 1408) : k0_pay17 (k0_pay2 P1) (k0_pay4 P3) (k0_pay5 P4) (k0_pay7 (F := Ideal)) (k0_pay8 P0 P1 P2 P3 P4 P5) (ix2 i k)
    = ∑ j : Fin 1536, gxR (inRef P0 P1 P2 P3 P4 P5) i.val j.val * P1 (ix2 j k) := by
  unfold k0_pay17 k0_pay15 k0_pay14 k0_pay2 k0_pay4 k0_pay5
  pointwise [u_apply P0 P1 P2 P3 P4 P5, z_apply, invN_named]
  refine Finset.sum_congr rfl fun j _ => ?_
  rw [gxR, in_ys]; rfl

theorem dy_apply (i : Fin 1536) (k : Fin 1408) : k0_pay18 (k0_pay1 P0) (k0_pay3 P2) (k0_pay5 P4) (k0_pay7 (F := Ideal)) (k0_pay8 P0 P1 P2 P3 P4 P5) (ix2 i k)
    = ∑ j : Fin 1536, gyR (inRef P0 P1 P2 P3 P4 P5) j.val i.val * P0 (ix2 j k) := by
  unfold k0_pay18 k0_pay15 k0_pay14 k0_pay1 k0_pay3 k0_pay5
  pointwise [u_apply P0 P1 P2 P3 P4 P5, z_apply, invN_named]
  refine Finset.sum_congr rfl fun j _ => ?_
  rw [gyR, in_xs]; rfl

end Cert.ReferenceIdeal.Hand

end
-- ==== Proof.RefArrays.lean ====
/-
  The reference: what its arguments are to the region and what its result arrays hold.
-/
module

public import proofs.«01_k».proof.Proof.RefBody
public import proofs.«01_k».proof.Proof.Gen.ReferenceIdeal.Value
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.Siglip
open Idealize.ShloMosaic.Pipeline (Dat)

variable (m : (ℓ : Loc nD τ sig) → Buf (Elt Ideal) ℓ) (c : Dev nD)

/-- The arguments as the region finds them. -/
theorem V0 : V m c main_v0 = shapeCast S1536x1408 (m ((c : Thread nD τ).loc main_arg0)) shapeCasts_S3x512x1408_S1536x1408 := by
  unfold_abbrev_sides; after_results; rfl
theorem V1 : V m c main_v1 = shapeCast S1536x1 (m ((c : Thread nD τ).loc main_arg1)) shapeCasts_S3x512_S1536x1 := by
  unfold_abbrev_sides; after_results; rfl
theorem V2 : V m c main_v2 = shapeCast S1536x1408 (m ((c : Thread nD τ).loc main_arg2)) shapeCasts_S3x512x1408_S1536x1408 := by
  unfold_abbrev_sides; after_results; rfl
theorem V3 : V m c main_v3 = shapeCast S1x1536 (m ((c : Thread nD τ).loc main_arg3)) shapeCasts_S3x512_S1x1536 := by
  unfold_abbrev_sides; after_results; rfl
theorem V4 : V m c main_v4 = shapeCast S1x1 (m ((c : Thread nD τ).loc main_arg4)) shapeCasts_S_S1x1 := by
  unfold_abbrev_sides; after_results; rfl
theorem V5 : V m c main_v5 = shapeCast S1x1 (m ((c : Thread nD τ).loc main_arg5)) shapeCasts_S_S1x1 := by
  unfold_abbrev_sides; after_results; rfl

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The input blocks at the one point are the arrays. -/
theorem iblk0 : iblk m c 0 t0_0 = V m c main_v0 := by blk_ext! [iblk, idx t0_0]
theorem iblk1 : iblk m c 1 t0_0 = V m c main_v1 := by blk_ext! [iblk, idx t0_0]
theorem iblk2 : iblk m c 2 t0_0 = V m c main_v2 := by blk_ext! [iblk, idx t0_0]
theorem iblk3 : iblk m c 3 t0_0 = V m c main_v3 := by blk_ext! [iblk, idx t0_0]
theorem iblk4 : iblk m c 4 t0_0 = V m c main_v4 := by blk_ext! [iblk, idx t0_0]
theorem iblk5 : iblk m c 5 t0_0 = V m c main_v5 := by blk_ext! [iblk, idx t0_0]

/-- The inputs of the reference. -/
def inp : In := inRef (V m c main_v0) (V m c main_v2) (V m c main_v1) (V m c main_v3) (V m c main_v4) (V m c main_v5)

/-- The inputs of the reference are those read off its arguments. -/
theorem inp_eq (h : S_.ShapeCasts (⟨1, ![1]⟩ : Shape)) : inp m c = inOf (shapeCast (⟨1, ![1]⟩ : Shape) (m ((c : Thread nD τ).loc main_arg4)) h) (shapeCast (⟨1, ![1]⟩ : Shape) (m ((c : Thread nD τ).loc main_arg5)) h)
    (m ((c : Thread nD τ).loc main_arg1)) (m ((c : Thread nD τ).loc main_arg3))
    (shapeCast S1536x1408 (m ((c : Thread nD τ).loc main_arg0)) shapeCasts_S3x512x1408_S1536x1408)
    (shapeCast S1536x1408 (m ((c : Thread nD τ).loc main_arg2)) shapeCasts_S3x512x1408_S1536x1408) := by
  unfold inp
  rw [V0, V1, V2, V3, V4, V5]
  have hv (x : S3x512.Idx → EReal) (i : ℕ) (hi : i < 1536) : shapeCast S1536x1 x shapeCasts_S3x512_S1536x1 (ix2 ⟨i, hi⟩ 0)
      = x (ix2 ⟨i / 512, by omega⟩ ⟨i % 512, Nat.mod_lt _ (by norm_num)⟩) := by
    pointwise []
  have hw (x : S3x512.Idx → EReal) (i : ℕ) (hi : i < 1536) : shapeCast S1x1536 x shapeCasts_S3x512_S1x1536 (ix2 0 ⟨i, hi⟩)
      = x (ix2 ⟨i / 512, by omega⟩ ⟨i % 512, Nat.mod_lt _ (by norm_num)⟩) := by
    pointwise []
  unfold inRef inOf
  congr 1
  · funext i; unfold vecN; split
    · exact hv _ i ‹_›
    · rfl
  · funext i; unfold vecN; split
    · exact hw _ i ‹_›
    · rfl

/-- The loss array. -/
theorem final6 : (dats m 0 c).arrAt 6 cfg0.N = fun y : S3x512.Idx => lossR (inp m c) (512 * (y 0).val + (y 1).val) := by
  refine (dats m 0 c).arrAt_eq_of_after_last 6 t0_0 (by decide +kernel) _ fun j => ?_
  blk_simp
  rw [after0_6]
  frame_out
  rw [iblk0, iblk1, iblk2, iblk3, iblk4, iblk5]
  exact (congrArg _ (eq_ix2 j)).trans (loss_apply _ _ _ _ _ _ (j 0) (j 1))

/-- The first matrix gradient. -/
theorem final7 : (dats m 0 c).arrAt 7 cfg0.N = fun y : S1536x1408.Idx => ∑ j : Fin 1536, gxR (inp m c) (y 0).val j.val * V m c main_v2 (ix2 j (y 1)) := by
  refine (dats m 0 c).arrAt_eq_of_after_last 7 t0_0 (by decide +kernel) _ fun j => ?_
  blk_simp
  rw [after0_7]
  unfold_out out0_7
  simp (disch := decide) only [View.canon_cons_unit_lit', View.ld_unit_lit']
  rw [iblk0, iblk1, iblk2, iblk3, iblk4, iblk5]
  exact (congrArg _ (eq_ix2 j)).trans (dx_apply (V m c main_v0) _ (V m c main_v1) _ _ (V m c main_v5) (j 0) (j 1))

/-- The second matrix gradient. -/
theorem final8 : (dats m 0 c).arrAt 8 cfg0.N = fun y : S1536x1408.Idx => ∑ j : Fin 1536, gyR (inp m c) j.val (y 0).val * V m c main_v0 (ix2 j (y 1)) := by
  refine (dats m 0 c).arrAt_eq_of_after_last 8 t0_0 (by decide +kernel) _ fun j => ?_
  blk_simp
  rw [after0_8]
  unfold_out out0_8
  simp (disch := decide) only [View.canon_cons_unit_lit', View.ld_unit_lit']
  rw [iblk0, iblk1, iblk2, iblk3, iblk4, iblk5]
  exact (congrArg _ (eq_ix2 j)).trans (dy_apply _ _ _ _ _ _ (j 0) (j 1))

/-- The temperature gradient. -/
theorem final9 : (dats m 0 c).arrAt 9 cfg0.N = fun y : S3x512.Idx => dltR (inp m c) (512 * (y 0).val + (y 1).val) := by
  refine (dats m 0 c).arrAt_eq_of_after_last 9 t0_0 (by decide +kernel) _ fun j => ?_
  blk_simp
  rw [after0_9]
  unfold_out out0_9
  simp (disch := decide) only [View.canon_cons_unit_lit', View.ld_unit_lit']
  rw [iblk0, iblk1, iblk2, iblk3, iblk4, iblk5]
  exact (congrArg _ (eq_ix2 j)).trans (dlt_apply _ _ _ _ _ _ (j 0) (j 1))

/-- The bias gradient. -/
theorem final10 : (dats m 0 c).arrAt 10 cfg0.N = fun y : S3x512.Idx => dbR (inp m c) (512 * (y 0).val + (y 1).val) := by
  refine (dats m 0 c).arrAt_eq_of_after_last 10 t0_0 (by decide +kernel) _ fun j => ?_
  blk_simp
  rw [after0_10]
  unfold_out out0_10
  simp (disch := decide) only [View.canon_cons_unit_lit', View.ld_unit_lit']
  rw [iblk0, iblk1, iblk2, iblk3, iblk4, iblk5]
  exact (congrArg _ (eq_ix2 j)).trans (db_apply _ _ _ _ _ _ (j 0) (j 1))

end Cert.ReferenceIdeal.Hand

end
-- ==== Proof.Bias.lean ====
/-
  The precondition: the bias is a real number.
-/
module

public import proofs.«01_k».proof.Defs
public import proofs.«01_k».proof.Proof.Gen.Pre_finite_bias
public import Idealize.ShloMosaic.Lib.Pointwise

@[expose] public section

noncomputable section

namespace Cert.Pre_finite_bias

open Idealize.ShloMosaic

/-- The precondition holds only of a bias that is neither infinity. -/
theorem bias_real (a0 : FVec Ideal S3x512x1408 .fp8e4m3) (a1 : FVec Ideal S3x512 .f32) (a2 : FVec Ideal S3x512x1408 .fp8e4m3)
    (a3 : FVec Ideal S3x512 .f32) (a4 a5 : FVec Ideal S_ .f32) (h : (fn (F := Ideal) a0 a1 a2 a3 a4 a5 : IVec S_ 1) = fun _ => 1#1) (i : S_.Idx) :
    (a5 i : EReal) ≠ ⊤ ∧ (a5 i : EReal) ≠ ⊥ := by
  have h' := congrFun h i
  have e : Ideal.ofBits .f32 0x7F800000#32 = ⊤ := by
    simp [Ideal.ofBits, Ideal.ieee]
  unfold fn at h'
  have ht : FloatOps.absf (F := Ideal) (φ := .f32) (⊤ : EReal) = (⊤ : EReal) := by show max (⊤ : EReal) (-⊤) = ⊤; simp
  have hb : FloatOps.absf (F := Ideal) (φ := .f32) (⊥ : EReal) = (⊤ : EReal) := by show max (⊥ : EReal) (-⊥) = ⊤; simp
  constructor <;> intro hi <;> pointwise [hi, e, ht, hb] at h' <;> simp at h'

end Cert.Pre_finite_bias

end
-- ==== Proof.Algebraic.lean ====
/-
  Both idealized programs leave the same arrays.
-/
module

public import proofs.«01_k».proof.Defs
public import proofs.«01_k».proof.Proof.Arrays
public import proofs.«01_k».proof.Proof.RefArrays
public import proofs.«01_k».proof.Proof.Equation
public import proofs.«01_k».proof.Proof.Bias

@[expose] public section

noncomputable section

namespace Cert.Proof

open Idealize.ShloMosaic Idealize.SL.Sem Cert.Siglip

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (h : Same m m' c)

include h

/-- From the same arguments, the two programs compute on the same inputs. -/
theorem inp_same : Cert.ReferenceIdeal.Hand.inp m' c = Cert.KernelIdeal.Hand.inp m c := by
  obtain ⟨h0, h1, h2, h3, h4, h5⟩ := h
  refine (Cert.ReferenceIdeal.Hand.inp_eq m' c Cert.KernelIdeal.Gen.facts.shapeCasts_S_S1).trans ?_
  unfold Cert.KernelIdeal.Hand.inp
  rw [h0, h1, h2, h3, h4, h5, Cert.KernelIdeal.Hand.V0, Cert.KernelIdeal.Hand.V1, Cert.KernelIdeal.Hand.V2, Cert.KernelIdeal.Hand.V3]

/-- The first matrix of codes. -/
theorem codes_x : (Cert.ReferenceIdeal.Gen.V m' c Cert.ReferenceIdeal.main_v0 : (⟨2, ![1536, 1408]⟩ : Shape).Idx → EReal) = Cert.KernelIdeal.Gen.V m c Cert.KernelIdeal.main_v2 := by
  refine (Cert.ReferenceIdeal.Hand.V0 m' c).trans ?_
  rw [h.1, Cert.KernelIdeal.Hand.V2]

/-- The second matrix of codes. -/
theorem codes_y : (Cert.ReferenceIdeal.Gen.V m' c Cert.ReferenceIdeal.main_v2 : (⟨2, ![1536, 1408]⟩ : Shape).Idx → EReal) = Cert.KernelIdeal.Gen.V m c Cert.KernelIdeal.main_v3 := by
  refine (Cert.ReferenceIdeal.Hand.V2 m' c).trans ?_
  rw [h.2.2.1, Cert.KernelIdeal.Hand.V3]

variable (hb : (Cert.KernelIdeal.Hand.inp m c).bias ≠ ⊤) (hb' : (Cert.KernelIdeal.Hand.inp m c).bias ≠ ⊥)

include hb hb'

/-- The loss. -/
theorem same6 : (Cert.ReferenceIdeal.Gen.dats m' 0 c).arrAt 6 Cert.ReferenceIdeal.cfg0.N = (Cert.KernelIdeal.Gen.dats m 0 c).arrAt 6 Cert.KernelIdeal.cfg0.N := by
  refine (Cert.ReferenceIdeal.Hand.final6 m' c).trans (Eq.trans ?_ (Cert.KernelIdeal.Hand.final6 m c).symm)
  funext y
  rw [inp_same h]
  exact (loss_eq hb hb' _).symm

/-- The temperature gradient. -/
theorem same9 : (Cert.ReferenceIdeal.Gen.dats m' 0 c).arrAt 9 Cert.ReferenceIdeal.cfg0.N = (Cert.KernelIdeal.Gen.dats m 0 c).arrAt 9 Cert.KernelIdeal.cfg0.N := by
  refine (Cert.ReferenceIdeal.Hand.final9 m' c).trans (Eq.trans ?_ (Cert.KernelIdeal.Hand.final9 m c).symm)
  funext y
  rw [inp_same h]
  exact (dlt_eq hb hb' _).symm

/-- The bias gradient. -/
theorem same10 : (Cert.ReferenceIdeal.Gen.dats m' 0 c).arrAt 10 Cert.ReferenceIdeal.cfg0.N = (Cert.KernelIdeal.Gen.dats m 0 c).arrAt 10 Cert.KernelIdeal.cfg0.N := by
  refine (Cert.ReferenceIdeal.Hand.final10 m' c).trans (Eq.trans ?_ (Cert.KernelIdeal.Hand.final10 m c).symm)
  funext y
  rw [inp_same h]
  exact (db_eq hb hb' _).symm

/-- The first matrix gradient. -/
theorem same7 : (Cert.ReferenceIdeal.Gen.dats m' 0 c).arrAt 7 Cert.ReferenceIdeal.cfg0.N = (Cert.KernelIdeal.Gen.dats m 0 c).arrAt 7 Cert.KernelIdeal.cfg0.N := by
  refine (Cert.ReferenceIdeal.Hand.final7 m' c).trans (Eq.trans ?_ (Cert.KernelIdeal.Hand.final7 m c).symm)
  funext y
  refine Finset.sum_congr rfl fun j _ => ?_
  rw [inp_same h]
  exact congrArg₂ (· * ·) (gx_eq hb hb' _ _).symm (congrFun (codes_y h) _)

/-- The second matrix gradient. -/
theorem same8 : (Cert.ReferenceIdeal.Gen.dats m' 0 c).arrAt 8 Cert.ReferenceIdeal.cfg0.N = (Cert.KernelIdeal.Gen.dats m 0 c).arrAt 8 Cert.KernelIdeal.cfg0.N := by
  refine (Cert.ReferenceIdeal.Hand.final8 m' c).trans (Eq.trans ?_ (Cert.KernelIdeal.Hand.final8 m c).symm)
  funext y
  refine Finset.sum_congr rfl fun j _ => ?_
  rw [inp_same h]
  exact congrArg₂ (· * ·) (gy_eq hb hb' _ _).symm (congrFun (codes_x h) _)

end

/-- The precondition makes the bias that the kernel reads a real number. -/
theorem bias_of_pre {m : (ℓ : Loc Cert.KernelIdeal.nD Cert.KernelIdeal.τ Cert.KernelIdeal.sig) → Buf (Elt Ideal) ℓ}
    (hp : Pre_KernelIdeal_finite_bias m) (c : Dev Cert.KernelIdeal.nD) :
    (Cert.KernelIdeal.Hand.inp m c).bias ≠ ⊤ ∧ (Cert.KernelIdeal.Hand.inp m c).bias ≠ ⊥ := by
  unfold Cert.KernelIdeal.Hand.inp
  rw [Cert.KernelIdeal.Hand.V1]
  exact Cert.Pre_finite_bias.bias_real _ _ _ _ _ _ (hp c) _

/-- From the same arguments with a real bias, the two idealized programs end with equal results, their arguments kept. -/
theorem algebraic : algebraic_KernelIdeal_ReferenceIdeal_pre_finite_bias := fun m g m' g' hp hs =>
  ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g,
    (θ_run Cert.ReferenceIdeal.defs _ _).mono (fun r h c =>
      have hb := bias_of_pre hp c
      have H := h c
      ⟨H.1.trans (same6 (hs c) hb.1 hb.2), H.2.1.trans (same7 (hs c) hb.1 hb.2), H.2.2.1.trans (same8 (hs c) hb.1 hb.2),
        H.2.2.2.1.trans (same9 (hs c) hb.1 hb.2), H.2.2.2.2.1.trans (same10 (hs c) hb.1 hb.2), H.2.2.2.2.2⟩)
      (Cert.ReferenceIdeal.Value.run_blocks m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_finite_bias
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate: the three frames, the four named constants, and that the two idealized programs end with equal results. -/
theorem claim : Cert.Claim := ⟨Cert.Kernel.Gen.facts, Cert.KernelIdeal.Gen.facts, Cert.ReferenceIdeal.Gen.facts, Cert.Pre_finite_bias.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  ⟨IdealRules.named_const.statement Cert.KernelIdeal.κ "neg_log2_e" .f32 0xBFB8AA3B#32 ((-((Real.log 2)⁻¹) : ℝ) : EReal) rfl,
    IdealRules.named_const.statement Cert.KernelIdeal.κ "inv_n" .f32 0x3A2AAAAB#32 ((1 / 1536 : ℝ) : EReal) rfl,
    IdealRules.named_const.statement Cert.KernelIdeal.κ "neg_ln_2" .f32 0xBF317218#32 ((-(Real.log 2) : ℝ) : EReal) rfl,
    IdealRules.named_const.statement Cert.KernelIdeal.κ "neg_ln_2_over_n" .f32 0xB9EC9820#32 ((-((Real.log 2) * (1 / 1536)) : ℝ) : EReal) rfl⟩,
  algebraic⟩

end Cert.Proof

end
